-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_values_reach_above_zero [hPre_values_reach_above_zero : Cert.Pre_values_reach_above_zero.Facts] (m : (ℓ : Loc Cert.KernelIdeal.nD Cert.KernelIdeal.τ Cert.KernelIdeal.sig) → Buf (Elt Ideal) ℓ) : Prop :=
  ∀ c : Dev Cert.KernelIdeal.nD,
    (Cert.Pre_values_reach_above_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_values_reach_above_zero [hPre_values_reach_above_zero : Cert.Pre_values_reach_above_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_values_reach_above_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_values_reach_above_zero [hKernelIdeal : Cert.KernelIdeal.Facts] [hPre_values_reach_above_zero : Cert.Pre_values_reach_above_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_values_reach_above_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_values_reach_above_zero [hReferenceIdeal : Cert.ReferenceIdeal.Facts] [hPre_values_reach_above_zero : Cert.Pre_values_reach_above_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_values_reach_above_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_values_reach_above_zero [hKernelIdeal : Cert.KernelIdeal.Facts] [hReferenceIdeal : Cert.ReferenceIdeal.Facts] [hPre_values_reach_above_zero : Cert.Pre_values_reach_above_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_values_reach_above_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_values_reach_above_zero : Cert.Pre_values_reach_above_zero.Facts),
    quiescent_Kernel (hKernel := hKernel)
    ∧ quiescent_KernelIdeal (hKernelIdeal := hKernelIdeal)
    ∧ quiescent_KernelIdeal_pre_values_reach_above_zero (hKernelIdeal := hKernelIdeal) (hPre_values_reach_above_zero := hPre_values_reach_above_zero)
    ∧ quiescent_ReferenceIdeal (hReferenceIdeal := hReferenceIdeal)
    ∧ quiescent_ReferenceIdeal_pre_values_reach_above_zero (hReferenceIdeal := hReferenceIdeal) (hPre_values_reach_above_zero := hPre_values_reach_above_zero)
    ∧ preserves_Kernel_KernelIdeal
    ∧ algebraic_KernelIdeal_ReferenceIdeal_pre_values_reach_above_zero (hKernelIdeal := hKernelIdeal) (hReferenceIdeal := hReferenceIdeal) (hPre_values_reach_above_zero := hPre_values_reach_above_zero)
-- ==== Pre_values_reach_above_zero.lean ====
abbrev S1x2048x2048 : Shape := ⟨3, ![1, 2048, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x2048x6144 : Shape := ⟨3, ![1, 2048, 6144]⟩
abbrev S1x1x6144 : Shape := ⟨3, ![1, 1, 6144]⟩
abbrev S_ : Shape := ⟨0, ![]⟩

class Facts : Prop where
  bcast_S6144_S1x1x6144_2 : S6144.BroadcastsInDim S1x1x6144 (![2] : Fin 1 → Fin S1x1x6144.rank)
  bcast_S1x1x6144_S1x2048x6144_0_1_2 : S1x1x6144.BroadcastsInDim S1x2048x6144 (![0, 1, 2] : Fin 3 → Fin S1x2048x6144.rank)
  slices_S1x2048x6144_S1x2048x2048_0_0_4096 : S1x2048x6144.Slices ![0, 0, 4096] S1x2048x2048
  shapeCasts_S1x2048x2048_S2048x2048 : S1x2048x2048.ShapeCasts S2048x2048
  bcast_S_S2048x2048 : S_.BroadcastsInDim S2048x2048 (![] : Fin 0 → Fin S2048x2048.rank)
  reducesTo_S2048x2048_S2048_d0 : S2048x2048.ReducesTo [0] S2048
  h_S_ : 0 < S_.numel
  dot_S1x2048x2048_S2048x6144_S1x2048x6144_2_0_01_1_n_n_wf : DotDims.WF S1x2048x2048 S2048x6144 S1x2048x6144 [2] [0] [0, 1] [1] [] []

variable [Facts]

def dot_S1x2048x2048_S2048x6144_S1x2048x6144_2_0_01_1_n_n : DotDims S1x2048x2048 S2048x6144 S1x2048x6144 where
  lhsContracting := [2]
  rhsContracting := [0]
  lhsNonContracting := [0, 1]
  rhsNonContracting := [1]
  lhsBatch := []
  rhsBatch := []
  wf := dot_S1x2048x2048_S2048x6144_S1x2048x6144_2_0_01_1_n_n_wf
def fn {F : FTy → Type} [FloatOps F] (main_arg0 : FVec F S1x2048x2048 .f32) (main_arg1 : FVec F S2048x6144 .f32) (main_arg2 : FVec F S6144 .f32) (main_arg3 : FVec F S2048x2048 .f32) (main_arg4 : FVec F S2048 .f32) : IVec S2048 1 :=
  let main_v0 : FVec F S1x2048x6144 .f32 := (fun l r => Host.dotGeneral dot_S1x2048x2048_S2048x6144_S1x2048x6144_2_0_01_1_n_n none l r) main_arg0 main_arg1
  let main_v1 : FVec F S1x1x6144 .f32 := broadcastInDim S1x1x6144 ![2] bcast_S6144_S1x1x6144_2 main_arg2
  let main_v2 : FVec F S1x2048x6144 .f32 := broadcastInDim S1x2048x6144 ![0, 1, 2] bcast_S1x1x6144_S1x2048x6144_0_1_2 main_v1
  let main_v3 : FVec F S1x2048x6144 .f32 := addf main_v0 main_v2
  let main_v4 : FVec F S1x2048x2048 .f32 := (extractStridedSlice S1x2048x2048 ![0, 0, 4096] · slices_S1x2048x6144_S1x2048x2048_0_0_4096) main_v3
  let main_v5 : FVec F S2048x2048 .f32 := shapeCast S2048x2048 main_v4 shapeCasts_S1x2048x2048_S2048x2048
  let main_cst : FVec F S_ .f32 := constant S_ .f32 0x00000000#32
  let main_v6 : FVec F S2048x2048 .f32 := broadcastInDim S2048x2048 ![] bcast_S_S2048x2048 main_cst
  let main_v7 : IVec S2048x2048 1 := cmpf .ogt main_v5 main_v6
  let main_c : IVec S_ 1 := constantI S_ 1 0#1
  let main_v8 : IVec S2048 1 := (fun x v => Host.reduce IntOp.ori x v reducesTo_S2048x2048_S2048_d0 h_S_) main_v7 main_c
  main_v8
-- ==== Kernel.lean ====
abbrev S1x2048x2048 : Shape := ⟨3, ![1, 2048, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S12x1x512 : Shape := ⟨3, ![12, 1, 512]⟩
abbrev S3x16x2048x128 : Shape := ⟨4, ![3, 16, 2048, 128]⟩
abbrev S2048x512 : Shape := ⟨2, ![2048, 512]⟩
abbrev S1x1x512 : Shape := ⟨3, ![1, 1, 512]⟩
abbrev S1x4x2048x128 : Shape := ⟨4, ![1, 4, 2048, 128]⟩
abbrev S1x512 : Shape := ⟨2, ![1, 512]⟩
abbrev S2048x128 : Shape := ⟨2, ![2048, 128]⟩
abbrev S1x1x2048x128 : Shape := ⟨4, ![1, 1, 2048, 128]⟩
abbrev S16x1x40 : Shape := ⟨3, ![16, 1, 40]⟩
abbrev S1x16x2048x128 : Shape := ⟨4, ![1, 16, 2048, 128]⟩
abbrev S16x2048x128 : Shape := ⟨3, ![16, 2048, 128]⟩
abbrev S16x2048 : Shape := ⟨2, ![16, 2048]⟩
abbrev S16 : Shape := ⟨1, ![16]⟩
abbrev S16x1 : Shape := ⟨2, ![16, 1]⟩
abbrev S16x40 : Shape := ⟨2, ![16, 40]⟩
abbrev S1x1x40 : Shape := ⟨3, ![1, 1, 40]⟩
abbrev S1x40 : Shape := ⟨2, ![1, 40]⟩
abbrev S2048x40 : Shape := ⟨2, ![2048, 40]⟩
abbrev S40x128 : Shape := ⟨2, ![40, 128]⟩
abbrev S40x2048 : Shape := ⟨2, ![40, 2048]⟩
abbrev S40 : Shape := ⟨1, ![40]⟩
abbrev S40x1 : Shape := ⟨2, ![40, 1]⟩
abbrev S2048x1 : Shape := ⟨2, ![2048, 1]⟩
abbrev S1x2048 : Shape := ⟨2, ![1, 2048]⟩
abbrev S512x2048 : Shape := ⟨2, ![512, 2048]⟩

abbrev nBuf : Space → Nat
  | .hbm => 16
  | .vmem => 25
  | .smem => 0
  | _ => 0

abbrev bufTy : (tb : Table) → Fin (tcTables nBuf tb) → BufTy
  | .hbm, ⟨0, _⟩ => ⟨S1x2048x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .bf16⟩
  | .hbm, ⟨7, _⟩ => ⟨S2048x6144, .bf16⟩
  | .hbm, ⟨8, _⟩ => ⟨S12x1x512, .f32⟩
  | .hbm, ⟨9, _⟩ => ⟨S3x16x2048x128, .f32⟩
  | .hbm, ⟨10, _⟩ => ⟨S16x1x40, .i32⟩
  | .hbm, ⟨11, _⟩ => ⟨S2048x2048, .bf16⟩
  | .hbm, ⟨12, _⟩ => ⟨S2048x2048, .bf16⟩
  | .hbm, ⟨13, _⟩ => ⟨S1x2048, .f32⟩
  | .hbm, ⟨14, _⟩ => ⟨S2048x2048, .f32⟩
  | .hbm, ⟨15, _⟩ => ⟨S1x2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S1x1x512, .f32⟩
  | .local _ .vmem, ⟨4, _⟩ => ⟨S1x1x512, .f32⟩
  | .local _ .vmem, ⟨5, _⟩ => ⟨S1x4x2048x128, .f32⟩
  | .local _ .vmem, ⟨6, _⟩ => ⟨S1x4x2048x128, .f32⟩
  | .local _ .vmem, ⟨7, _⟩ => ⟨S1x16x2048x128, .f32⟩
  | .local _ .vmem, ⟨8, _⟩ => ⟨S16x1x40, .i32⟩
  | .local _ .vmem, ⟨9, _⟩ => ⟨S1x1x2048x128, .f32⟩
  | .local _ .vmem, ⟨10, _⟩ => ⟨S1x1x2048x128, .f32⟩
  | .local _ .vmem, ⟨11, _⟩ => ⟨S1x1x2048x128, .f32⟩
  | .local _ .vmem, ⟨12, _⟩ => ⟨S1x1x2048x128, .f32⟩
  | .local _ .vmem, ⟨13, _⟩ => ⟨S1x1x2048x128, .f32⟩
  | .local _ .vmem, ⟨14, _⟩ => ⟨S1x1x2048x128, .f32⟩
  | .local _ .vmem, ⟨15, _⟩ => ⟨S1x1x40, .i32⟩
  | .local _ .vmem, ⟨16, _⟩ => ⟨S1x1x40, .i32⟩
  | .local _ .vmem, ⟨17, _⟩ => ⟨S2048x128, .bf16⟩
  | .local _ .vmem, ⟨18, _⟩ => ⟨S2048x128, .bf16⟩
  | .local _ .vmem, ⟨19, _⟩ => ⟨S512x2048, .bf16⟩
  | .local _ .vmem, ⟨20, _⟩ => ⟨S512x2048, .bf16⟩
  | .local _ .vmem, ⟨21, _⟩ => ⟨S2048x2048, .bf16⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S1x16x2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x1x40 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_1 (i : grid2.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc2_transform_2 (i : grid2.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1x1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x40 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S1x2048x2048 : Shape := ⟨3, ![1, 2048, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x2048x6144 : Shape := ⟨3, ![1, 2048, 6144]⟩
abbrev S1x1x6144 : Shape := ⟨3, ![1, 1, 6144]⟩
abbrev S1x2048x3x16x128 : Shape := ⟨5, ![1, 2048, 3, 16, 128]⟩
abbrev S3x1x16x2048x128 : Shape := ⟨5, ![3, 1, 16, 2048, 128]⟩
abbrev S1x1x16x2048x128 : Shape := ⟨5, ![1, 1, 16, 2048, 128]⟩
abbrev S1x16x2048x128 : Shape := ⟨4, ![1, 16, 2048, 128]⟩
abbrev S_ : Shape := ⟨0, ![]⟩
abbrev S1x16x2048 : Shape := ⟨3, ![1, 16, 2048]⟩
abbrev S1x16x40 : Shape := ⟨3, ![1, 16, 40]⟩
abbrev S1x16x40x1 : Shape := ⟨4, ![1, 16, 40, 1]⟩
abbrev S16x40x1 : Shape := ⟨3, ![16, 40, 1]⟩
abbrev S1 : Shape := ⟨1, ![1]⟩
abbrev S1x1x1 : Shape := ⟨3, ![1, 1, 1]⟩
abbrev S16x40 : Shape := ⟨2, ![16, 40]⟩
abbrev S1x16x40x128 : Shape := ⟨4, ![1, 16, 40, 128]⟩
abbrev S1x16x128x2048 : Shape := ⟨4, ![1, 16, 128, 2048]⟩
abbrev S16x40x128 : Shape := ⟨3, ![16, 40, 128]⟩
abbrev S16x128x2048 : Shape := ⟨3, ![16, 128, 2048]⟩
abbrev S16x40x2048 : Shape := ⟨3, ![16, 40, 2048]⟩
abbrev S1x16x40x2048 : Shape := ⟨4, ![1, 16, 40, 2048]⟩
abbrev S16 : Shape := ⟨1, ![16]⟩
abbrev S1x16x1 : Shape := ⟨3, ![1, 16, 1]⟩
abbrev S1x16x2048x2048 : Shape := ⟨4, ![1, 16, 2048, 2048]⟩
abbrev S1x16x40x3 : Shape := ⟨4, ![1, 16, 40, 3]⟩
abbrev S1x16x2048x1 : Shape := ⟨4, ![1, 16, 2048, 1]⟩
abbrev S16x2048x2048 : Shape := ⟨3, ![16, 2048, 2048]⟩
abbrev S16x2048x128 : Shape := ⟨3, ![16, 2048, 128]⟩
abbrev S1x2048x16x128 : Shape := ⟨4, ![1, 2048, 16, 128]⟩
abbrev S1x1x2048 : Shape := ⟨3, ![1, 1, 2048]⟩

abbrev nBuf : Space → Nat
  | .hbm => 163
  | .vmem => 0
  | .smem => 0
  | _ => 0

abbrev hbmTy0_0 (i : Nat) : BufTy := match i % 128 with
  | 0 => ⟨S1x2048x2048, .f32⟩
  | 1 => ⟨S2048x6144, .f32⟩
  | 2 => ⟨S6144, .f32⟩
  | 3 => ⟨S2048x2048, .f32⟩
  | 4 => ⟨S2048, .f32⟩
  | 5 => ⟨S1x2048x6144, .f32⟩
  | 6 => ⟨S1x1x6144, .f32⟩
  | 7 => ⟨S1x2048x6144, .f32⟩
  | 8 => ⟨S1x2048x6144, .f32⟩
  | 9 => ⟨S1x2048x3x16x128, .f32⟩
  | 10 => ⟨S3x1x16x2048x128, .f32⟩
  | 11 => ⟨S1x1x16x2048x128, .f32⟩
  | 12 => ⟨S1x16x2048x128, .f32⟩
  | 13 => ⟨S1x1x16x2048x128, .f32⟩
  | 14 => ⟨S1x16x2048x128, .f32⟩
  | 15 => ⟨S1x1x16x2048x128, .f32⟩
  | 16 => ⟨S1x16x2048x128, .f32⟩
  | 17 => ⟨S1x16x2048x128, .f32⟩
  | 18 => ⟨S_, .f32⟩
  | 19 => ⟨S1x16x2048, .f32⟩
  | 20 => ⟨S1x16x2048, .f32⟩
  | 21 => ⟨S1x16x40, .f32⟩
  | 22 => ⟨S1x16x40, .i32⟩
  | 23 => ⟨S1x16x40x1, .i32⟩
  | 24 => ⟨S_, .i32⟩
  | 25 => ⟨S1x16x40x1, .i32⟩
  | 26 => ⟨S1x16x40x1, .i1⟩
  | 27 => ⟨S_, .i32⟩
  | 28 => ⟨S1x16x40x1, .i32⟩
  | 29 => ⟨S1x16x40x1, .i32⟩
  | 30 => ⟨S1x16x40x1, .i32⟩
  | 31 => ⟨S16x40x1, .i32⟩
  | 32 => ⟨S1, .i32⟩
  | 33 => ⟨S_, .i32⟩
  | 34 => ⟨S16x40x1, .i32⟩
  | 35 => ⟨S16x40x1, .i1⟩
  | 36 => ⟨S1x1x1, .i32⟩
  | 37 => ⟨S16x40x1, .i32⟩
  | 38 => ⟨S16x40x1, .i1⟩
  | 39 => ⟨S16x40x1, .i1⟩
  | 40 => ⟨S_, .i1⟩
  | 41 => ⟨S16x40, .i1⟩
  | 42 => ⟨S1x16x40x128, .f32⟩
  | 43 => ⟨S1x16x40x128, .i1⟩
  | 44 => ⟨S_, .f32⟩
  | 45 => ⟨S1x16x40x128, .f32⟩
  | 46 => ⟨S1x16x40x128, .f32⟩
  | 47 => ⟨S1x16x128x2048, .f32⟩
  | 48 => ⟨S16x40x128, .f32⟩
  | 49 => ⟨S16x128x2048, .f32⟩
  | 50 => ⟨S16x40x2048, .f32⟩
  | 51 => ⟨S1x16x40x2048, .f32⟩
  | 52 => ⟨S_, .f32⟩
  | 53 => ⟨S1x16x40x2048, .f32⟩
  | 54 => ⟨S1x16x40x2048, .f32⟩
  | 55 => ⟨S_, .f32⟩
  | 56 => ⟨S1x16x40, .f32⟩
  | 57 => ⟨S_, .f32⟩
  | 58 => ⟨S1x16x40, .f32⟩
  | 59 => ⟨S1x16x40, .f32⟩
  | 60 => ⟨S1x16x40x1, .f32⟩
  | 61 => ⟨S1x16x40x2048, .f32⟩
  | 62 => ⟨S1x16x40x2048, .f32⟩
  | 63 => ⟨S1x16x40x2048, .f32⟩
  | 64 => ⟨S_, .f32⟩
  | 65 => ⟨S1x16x40, .f32⟩
  | 66 => ⟨S1x16x40x1, .f32⟩
  | 67 => ⟨S1x16x40x2048, .f32⟩
  | 68 => ⟨S1x16x40x2048, .f32⟩
  | 69 => ⟨S1, .i32⟩
  | 70 => ⟨S1x1x1, .i32⟩
  | 71 => ⟨S16, .i32⟩
  | 72 => ⟨S1x16x1, .i32⟩
  | 73 => ⟨S_, .f32⟩
  | 74 => ⟨S1x16x2048x2048, .f32⟩
  | 75 => ⟨S_, .i32⟩
  | 76 => ⟨S1x1x1, .i32⟩
  | 77 => ⟨S1x1x1, .i1⟩
  | 78 => ⟨S_, .i32⟩
  | 79 => ⟨S1x1x1, .i32⟩
  | 80 => ⟨S1x1x1, .i32⟩
  | 81 => ⟨S1x1x1, .i32⟩
  | 82 => ⟨S_, .i32⟩
  | 83 => ⟨S1x16x1, .i32⟩
  | 84 => ⟨S1x16x1, .i1⟩
  | 85 => ⟨S_, .i32⟩
  | 86 => ⟨S1x16x1, .i32⟩
  | 87 => ⟨S1x16x1, .i32⟩
  | 88 => ⟨S1x16x1, .i32⟩
  | 89 => ⟨S_, .i32⟩
  | 90 => ⟨S1x16x40, .i32⟩
  | 91 => ⟨S1x16x40, .i1⟩
  | 92 => ⟨S_, .i32⟩
  | 93 => ⟨S1x16x40, .i32⟩
  | 94 => ⟨S1x16x40, .i32⟩
  | 95 => ⟨S1x16x40, .i32⟩
  | 96 => ⟨S1x16x40, .i32⟩
  | 97 => ⟨S1x16x40, .i32⟩
  | 98 => ⟨S1x16x40x1, .i32⟩
  | 99 => ⟨S1x16x40x1, .i32⟩
  | 100 => ⟨S1x16x40x1, .i32⟩
  | 101 => ⟨S1x16x40x3, .i32⟩
  | 102 => ⟨S1x16x2048x2048, .f32⟩
  | 103 => ⟨S_, .i1⟩
  | 104 => ⟨S1x16x2048x2048, .i1⟩
  | 105 => ⟨S_, .i32⟩
  | 106 => ⟨S1x1x1, .i32⟩
  | 107 => ⟨S1x1x1, .i1⟩
  | 108 => ⟨S_, .i32⟩
  | 109 => ⟨S1x1x1, .i32⟩
  | 110 => ⟨S1x1x1, .i32⟩
  | 111 => ⟨S1x1x1, .i32⟩
  | 112 => ⟨S_, .i32⟩
  | 113 => ⟨S1x16x1, .i32⟩
  | 114 => ⟨S1x16x1, .i1⟩
  | 115 => ⟨S_, .i32⟩
  | 116 => ⟨S1x16x1, .i32⟩
  | 117 => ⟨S1x16x1, .i32⟩
  | 118 => ⟨S1x16x1, .i32⟩
  | 119 => ⟨S_, .i32⟩
  | 120 => ⟨S1x16x40, .i32⟩
  | 121 => ⟨S1x16x40, .i1⟩
  | 122 => ⟨S_, .i32⟩
  | 123 => ⟨S1x16x40, .i32⟩
  | 124 => ⟨S1x16x40, .i32⟩
  | 125 => ⟨S1x16x40, .i32⟩
  | 126 => ⟨S1x16x40, .i32⟩
  | 127 => ⟨S1x16x40, .i32⟩
  | _ => ⟨S1x2048x2048, .f32⟩

abbrev hbmTy0_1 (i : Nat) : BufTy := match i % 128 with
  | 0 => ⟨S1x16x40x1, .i32⟩
  | 1 => ⟨S1x16x40x1, .i32⟩
  | 2 => ⟨S1x16x40x1, .i32⟩
  | 3 => ⟨S1x16x40x3, .i32⟩
  | 4 => ⟨S_, .i1⟩
  | 5 => ⟨S1x16x40x2048, .i1⟩
  | 6 => ⟨S1x16x2048x2048, .i1⟩
  | 7 => ⟨S_, .f32⟩
  | 8 => ⟨S_, .f32⟩
  | 9 => ⟨S1x16x2048x2048, .f32⟩
  | 10 => ⟨S1x16x2048x2048, .f32⟩
  | 11 => ⟨S_, .f32⟩
  | 12 => ⟨S1x16x2048, .f32⟩
  | 13 => ⟨S_, .f32⟩
  | 14 => ⟨S1x16x2048, .f32⟩
  | 15 => ⟨S1x16x2048, .f32⟩
  | 16 => ⟨S1x16x2048x1, .f32⟩
  | 17 => ⟨S1x16x2048x2048, .f32⟩
  | 18 => ⟨S1x16x2048x2048, .f32⟩
  | 19 => ⟨S1x16x2048x2048, .f32⟩
  | 20 => ⟨S_, .f32⟩
  | 21 => ⟨S1x16x2048, .f32⟩
  | 22 => ⟨S1x16x2048x1, .f32⟩
  | 23 => ⟨S1x16x2048x2048, .f32⟩
  | 24 => ⟨S1x16x2048x2048, .f32⟩
  | 25 => ⟨S16x2048x2048, .f32⟩
  | 26 => ⟨S16x2048x128, .f32⟩
  | 27 => ⟨S16x2048x128, .f32⟩
  | 28 => ⟨S1x16x2048x128, .f32⟩
  | 29 => ⟨S1x2048x16x128, .f32⟩
  | 30 => ⟨S1x2048x2048, .f32⟩
  | 31 => ⟨S1x2048x2048, .f32⟩
  | 32 => ⟨S1x1x2048, .f32⟩
  | 33 => ⟨S1x2048x2048, .f32⟩
  | 34 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_v13 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst : Ref sig .tc := ⟨.hbm, 52, rfl⟩
abbrev main_v20 : Ref sig .tc := ⟨.hbm, 53, rfl⟩
abbrev main_v21 : Ref sig .tc := ⟨.hbm, 54, rfl⟩
abbrev main_cst_0 : Ref sig .tc := ⟨.hbm, 55, rfl⟩
abbrev main_v22 : Ref sig .tc := ⟨.hbm, 56, rfl⟩
abbrev main_cst_1 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_3 : Ref sig .tc := ⟨.hbm, 73, rfl⟩
abbrev main_v37 : Ref sig .tc := ⟨.hbm, 74, rfl⟩
abbrev main_c : Ref sig .tc := ⟨.hbm, 75, rfl⟩
abbrev main_v38 : Ref sig .tc := ⟨.hbm, 76, rfl⟩
abbrev main_v39 : Ref sig .tc := ⟨.hbm, 77, rfl⟩
abbrev main_c_4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_5 : Ref sig .tc := ⟨.hbm, 82, rfl⟩
abbrev main_v43 : Ref sig .tc := ⟨.hbm, 83, rfl⟩
abbrev main_v44 : Ref sig .tc := ⟨.hbm, 84, rfl⟩
abbrev main_c_6 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_7 : Ref sig .tc := ⟨.hbm, 89, rfl⟩
abbrev main_v48 : Ref sig .tc := ⟨.hbm, 90, rfl⟩
abbrev main_v49 : Ref sig .tc := ⟨.hbm, 91, rfl⟩
abbrev main_c_8 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_9 : Ref sig .tc := ⟨.hbm, 103, rfl⟩
abbrev main_v60 : Ref sig .tc := ⟨.hbm, 104, rfl⟩
abbrev main_c_10 : Ref sig .tc := ⟨.hbm, 105, rfl⟩
abbrev main_v61 : Ref sig .tc := ⟨.hbm, 106, rfl⟩
abbrev main_v62 : Ref sig .tc := ⟨.hbm, 107, rfl⟩
abbrev main_c_11 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_c_12 : Ref sig .tc := ⟨.hbm, 112, rfl⟩
abbrev main_v66 : Ref sig .tc := ⟨.hbm, 113, rfl⟩
abbrev main_v67 : Ref sig .tc := ⟨.hbm, 114, rfl⟩
abbrev main_c_13 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_14 : Ref sig .tc := ⟨.hbm, 119, rfl⟩
abbrev main_v71 : Ref sig .tc := ⟨.hbm, 120, rfl⟩
abbrev main_v72 : Ref sig .tc := ⟨.hbm, 121, rfl⟩
abbrev main_c_15 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_16 : Ref sig .tc := ⟨.hbm, 132, rfl⟩
abbrev main_v82 : Ref sig .tc := ⟨.hbm, 133, rfl⟩
abbrev main_v83 : Ref sig .tc := ⟨.hbm, 134, rfl⟩
abbrev main_cst_17 : Ref sig .tc := ⟨.hbm, 135, rfl⟩
abbrev main_call2_v0 : Ref sig .tc := ⟨.hbm, 136, rfl⟩
abbrev main_call2_v1 : Ref sig .tc := ⟨.hbm, 137, rfl⟩
abbrev main_v84 : Ref sig .tc := ⟨.hbm, 138, rfl⟩
abbrev main_cst_18 : Ref sig .tc := ⟨.hbm, 139, rfl⟩
abbrev main_v85 : Ref sig .tc := ⟨.hbm, 140, rfl⟩
abbrev main_cst_19 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_20 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩

abbrev nD : Nat := 1
abbrev τ : Topo := Topo.v7x

variable {F : FTy → Type} [FloatOps F]
-- ==== Proof.RunKernel.lean ====
module

public import proofs.«01_k».proof.Proof.Gen.KernelIdeal.Frame

/-! # The kernel's run, with its result

The generated launch says what the argument arrays hold when the kernel has finished.  Here the same launch
also says what the result array holds: the contents the last of the four calls leaves, reshaped. -/

@[expose] public section
set_option maxRecDepth 16384
noncomputable section
namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every run of the kernel ends, the result array at what the calls leave there and the arguments as launched. -/
theorem run_result : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Gen
-- ==== Proof.Calls.lean ====
/- What the first and the last call leave in their result arrays: the projections, head by head, and the outer product
   of the attended rows with the output weights. -/
module

public import proofs.«01_k».proof.Proof.Gen.KernelIdeal.Frame
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The last call -/

/-- A row of `A` against a column of `W`, plus the bias of the column. -/
def outProj (A : FVec Ideal S2048x2048 .bf16) (W : FVec Ideal S2048x2048 .bf16) (b : FVec Ideal S1x2048 .f32) :
    FVec Ideal S2048x2048 .f32 :=
  fun j => (∑ k : Fin 2048, A (ix2 (j 0) k) * W (ix2 k (j 1))) + b (ix2 0 (j 1))

/-- The blocks step `t` of the output projection reads: its own rows, all the weights, the whole bias. -/
theorem idx3 : ∀ t : Fin cfg3.N, win3_0.index t = ![t.val, 0] ∧ win3_1.index t = ![0, 0] ∧ win3_2.index t = ![0, 0]
    ∧ win3_3.index t = ![t.val, 0] ∧ t.val < 4 :=
  (by decide +kernel : ∀ t : Fin grid3.N, _)

/-- An entry of the block a step of the output projection writes is that entry of the whole product. -/
theorem point3 (c : Dev nD) (t : Fin cfg3.N) (y) :
    k3_pay1 (iblk3 V c 0 t) (iblk3 V c 1 t) (iblk3 V c 2 t) y
      = outProj (V c main_v6) (V c main_v7) (V c main_v8) (((cfg3.win 3).blk t).view.emb y) := by
  pointwise [k3_pay1, outProj]
  blk_point [iblk3, idx3 t]

/-- The last call's result. -/
theorem final3 (c : Dev nD) :
    (dat3 V c).arrAt 3 cfg3.N = outProj (V c main_v6) (V c main_v7) (V c main_v8) := by
  refine (dat3 V c).arrAt_eq_of_covers 3 _ (by decide +kernel) fun t _ y => ?_
  blk_simp
  rw [after3_3]; frame_out
  exact point3 V c t y

/-! ## The first call -/

/-- The column of the weights that holds entry `d` of head `h`, of the queries (`s = 0`), the keys (1) or the values (2). -/
def col (s : Fin 3) (h : Fin 16) (d : Fin 128) : Fin 6144 := ⟨s.val * 2048 + h.val * 128 + d.val, by omega⟩

/-- The projections: one array of heads for the queries, one for the keys, one for the values. -/
def projs (X : FVec Ideal S2048x2048 .bf16) (W : FVec Ideal S2048x6144 .bf16) (b : FVec Ideal S12x1x512 .f32) :
    FVec Ideal S3x16x2048x128 .f32 :=
  fun j => (∑ k : Fin 2048, X (ix2 (j 2) k) * W (ix2 k (col (j 0) (j 1) (j 3))))
    + b (ix3 (⟨(j 0).val * 4 + (j 1).val / 4, by have := (j 0).isLt; have := (j 1).isLt; simp [S3x16x2048x128] at *; omega⟩) 0
        (⟨(j 1).val % 4 * 128 + (j 3).val, by have := (j 1).isLt; have := (j 3).isLt; simp [S3x16x2048x128] at *; omega⟩))

/-- The blocks step `t` of the first projection reads: every row, and its own columns of the weights and of the bias. -/
theorem idx0 : ∀ t : Fin cfg0.N, win0_0.index t = ![0, 0] ∧ win0_1.index t = ![0, t.val] ∧ win0_2.index t = ![t.val, 0, 0]
    ∧ win0_3.index t = ![t.val / 4, t.val % 4, 0, 0] ∧ t.val < 12 :=
  (by decide +kernel : ∀ t : Fin grid0.N, _)

/-- An entry of the block of columns a point computes is an entry of the projections. -/
theorem core0 (c : Dev nD) (t : Fin cfg0.N) (y : S1x4x2048x128.Idx) (i : S2048x512.Idx) (j : S3x16x2048x128.Idx)
    (hi0 : (i 0 : ℕ) = y 2) (hi1 : (i 1 : ℕ) = (y 1 : ℕ) * 128 + y 3)
    (hj0 : (j 0 : ℕ) = t.val / 4) (hj1 : (j 1 : ℕ) = t.val % 4 * 4 + y 1) (hj2 : (j 2 : ℕ) = y 2) (hj3 : (j 3 : ℕ) = y 3) :
    k0_pay1 (F := Ideal) (iblk0 V c 0 t) (iblk0 V c 1 t) (iblk0 V c 2 t) i
      = projs (V c main_v1) (V c main_v2) (V c main_v3) j := by
  pointwise [k0_pay1, projs]
  blk_point [iblk0, idx0 t, col]

/-- An entry of the block a step of the first projection writes is that entry of the whole product. -/
theorem point0 (c : Dev nD) (t : Fin cfg0.N) (y : S1x4x2048x128.Idx) :
    out0_3 (F := Ideal) (iblk0 V c 0 t) (iblk0 V c 1 t) (iblk0 V c 2 t) y
      = projs (V c main_v1) (V c main_v2) (V c main_v3) (((cfg0.win 3).blk t).view.emb y) := by
  obtain_idx i : S2048x512 := [(y 2 : ℕ), (y 1 : ℕ) * 128 + (y 3 : ℕ)] with hi
  refine Eq.trans (b := k0_pay1 (F := Ideal) (iblk0 V c 0 t) (iblk0 V c 1 t) (iblk0 V c 2 t) i) ?_
    (core0 V c t y i _ hi0 hi1 ?_ ?_ ?_ ?_)
  · canon_tiles x h
    all_goals (open_payloads; pointwise; blk_ext)
  all_goals (blk_simp [idx0 t] <;> try omega)

/-- The first call's result. -/
theorem final0 (c : Dev nD) :
    (dat0 V c).arrAt 3 cfg0.N = projs (V c main_v1) (V c main_v2) (V c main_v3) := by
  refine (dat0 V c).arrAt_eq_of_covers 3 _ (by decide +kernel) fun t _ y => ?_
  blk_simp
  rw [after0_3]
  exact point0 V c t y

end Cert.KernelIdeal.Gen

end
-- ==== Proof.Order.lean ====
/- The greatest of some extended reals, found in two ways: by striking out the first maximum again and again, and as the
   head of a stable sort. The two pick the same positions in the same order. -/
module

public import Idealize.ShloMosaic.Lib.SortPrefix
public import Mathlib.Data.EReal.Basic

@[expose] public section

noncomputable section

namespace Cert.Sparse

open Idealize.ShloMosaic

variable {N : ℕ}

/-- `p` is the first position at which `v` takes its maximum. -/
structure IsFirstMax (v : Fin N → EReal) (p : Fin N) : Prop where
  ge : ∀ n, v n ≤ v p
  first : ∀ n, v n = v p → p ≤ n

variable [NeZero N]

/-- Every row has a first maximum. -/
theorem exists_firstMax (v : Fin N → EReal) : ∃ p, IsFirstMax v p := by
  obtain ⟨a, -, ha⟩ := Finset.exists_max_image Finset.univ v ⟨0, Finset.mem_univ _⟩
  obtain ⟨p, hp, hmin⟩ := Finset.exists_min_image (Finset.univ.filter fun n => v n = v a) id
    ⟨a, by simp⟩
  have hpa : v p = v a := by simpa using hp
  refine ⟨p, fun n => ?_, fun n hn => ?_⟩
  · rw [hpa]; exact ha n (Finset.mem_univ _)
  · exact hmin n (by simp [hn, hpa])

/-- The first position at which `v` takes its maximum. -/
def firstMax (v : Fin N → EReal) : Fin N := (exists_firstMax v).choose

/-- The first position of the maximum is one. -/
theorem firstMax_spec (v : Fin N → EReal) : IsFirstMax v (firstMax v) := (exists_firstMax v).choose_spec

/-- The row with position `p` struck out. -/
def strike (v : Fin N → EReal) (p : Fin N) : Fin N → EReal := fun n => if n = p then ⊥ else v n

/-- The row after `k` rounds, each striking out the first maximum. -/
def left (f : Fin N → EReal) : ℕ → Fin N → EReal
  | 0 => f
  | k + 1 => strike (left f k) (firstMax (left f k))

/-- The position struck out in round `k`. -/
def pick (f : Fin N → EReal) (k : ℕ) : Fin N := firstMax (left f k)

/-- After `k` rounds exactly the positions picked so far are struck out. -/
theorem left_apply (f : Fin N → EReal) (k : ℕ) (n : Fin N) :
    left f k n = if ∃ i < k, pick f i = n then ⊥ else f n := by
  induction k with
  | zero => simp [left]
  | succ k ih =>
    show (if n = pick f k then ⊥ else left f k n) = _
    rw [ih]
    by_cases h : n = pick f k
    · rw [if_pos h, if_pos ⟨k, Nat.lt_succ_self k, h.symm⟩]
    · rw [if_neg h]
      refine if_congr ⟨fun ⟨i, hi, e⟩ => ⟨i, by omega, e⟩, fun ⟨i, hi, e⟩ => ⟨i, ?_, e⟩⟩ rfl rfl
      rcases Nat.lt_succ_iff_lt_or_eq.mp hi with h' | h'
      · exact h'
      · subst h'; exact absurd e.symm h

variable {f : Fin N → EReal}

/-- Before round `N` some position is not yet picked. -/
theorem exists_unpicked (f : Fin N → EReal) {k : ℕ} (hk : k < N) : ∃ n, ∀ i < k, pick f i ≠ n := by
  by_contra hno
  push Not at hno
  have hs : (Finset.univ : Finset (Fin N)) ⊆ (Finset.range k).image (pick f) := fun n _ => by
    obtain ⟨i, hi, e⟩ := hno n
    exact Finset.mem_image.mpr ⟨i, Finset.mem_range.mpr hi, e⟩
  have hc := (Finset.card_le_card hs).trans Finset.card_image_le
  simp at hc
  omega

/-- A round picks a position that no earlier round picked. -/
theorem pick_ne (hf : ∀ n, ⊥ < f n) {i k : ℕ} (hk : k < N) (hi : i < k) : pick f i ≠ pick f k := by
  intro e
  obtain ⟨n, hn⟩ := exists_unpicked f hk
  have h := (firstMax_spec (left f k)).ge n
  rw [left_apply f k n, if_neg (by rintro ⟨j, hj, e'⟩; exact hn j hj e')] at h
  change f n ≤ left f k (pick f k) at h
  rw [left_apply, if_pos ⟨i, hi, e⟩] at h
  exact absurd (hf n) (not_lt.mpr h)

/-- What a round picks is at least every position not yet picked, and comes first among its equals. -/
theorem pick_ge (hf : ∀ n, ⊥ < f n) {k : ℕ} (hk : k < N) {n : Fin N} (hn : ∀ i < k, pick f i ≠ n) :
    f n ≤ f (pick f k) ∧ (f n = f (pick f k) → pick f k ≤ n) := by
  have hs := firstMax_spec (left f k)
  have e1 : left f k n = f n := by
    rw [left_apply, if_neg (by rintro ⟨j, hj, e'⟩; exact hn j hj e')]
  have e2 : left f k (pick f k) = f (pick f k) := by
    rw [left_apply, if_neg (by rintro ⟨j, hj, e'⟩; exact pick_ne hf hk hj e')]
  have h1 := hs.ge n
  have h2 := hs.first n
  change left f k n ≤ left f k (pick f k) at h1
  change left f k n = left f k (pick f k) → pick f k ≤ n at h2
  rw [e1, e2] at h1 h2
  exact ⟨h1, h2⟩

/-- `a` comes before `b`: a greater value, or an equal one at an earlier position. -/
def before (f : Fin N → EReal) (a b : Fin N) : Bool := decide (f b < f a) || (decide (f a = f b) && decide (a < b))

/-- The order by value, then by position, is strict and total. -/
theorem before_total (f : Fin N → EReal) : StrictTotalBefore (before f) :=
  StrictTotalBefore.of_key_then_position (fun a b : EReal => decide (b < a)) f (fun a => by simp)
    (fun a b c => by simp only [decide_eq_true_eq]; exact fun h h' => h'.trans h)
    (fun a b => by
      simp only [decide_eq_true_eq]
      rcases lt_trichotomy a b with h | h | h
      · exact Or.inr (Or.inr h)
      · exact Or.inr (Or.inl h)
      · exact Or.inl h)

/-- A position of no greater value, and after where equal, does not come before. -/
theorem not_before {a b : Fin N} (h : f b ≤ f a ∧ (f b = f a → a ≤ b)) : before f b a = false := by
  unfold before
  rw [Bool.or_eq_false_iff, Bool.and_eq_false_iff, decide_eq_false_iff_not, decide_eq_false_iff_not, decide_eq_false_iff_not]
  refine ⟨not_lt.mpr h.1, ?_⟩
  by_cases e : f b = f a
  · exact Or.inr (not_lt.mpr (h.2 e))
  · exact Or.inl e

/-- As long as there are positions left, the picks are different. -/
theorem pick_injective {K : ℕ} (hK : K ≤ N) (hf : ∀ n, ⊥ < f n) : Function.Injective fun i : Fin K => pick f i := by
  intro i j e
  rcases lt_trichotomy i.val j.val with h | h | h
  · exact absurd e (pick_ne hf (by omega) h)
  · exact Fin.ext h
  · exact absurd e.symm (pick_ne hf (by omega) h)

/-- The picks in order are the first positions of the sort by `before`. -/
theorem sorted_eq_pick {K : ℕ} (hK : K ≤ N) (hf : ∀ n, ⊥ < f n) (i : Fin K) :
    sortedFrom (before f) (i.castLE hK) = pick f i := by
  refine (before_total f).sortedFrom_eq_of_prefix hK (fun i : Fin K => pick f i) (pick_injective hK hf)
    (fun i j hij => not_before (pick_ge hf (by omega) fun l hl => ?_)) (fun i p hp => not_before (pick_ge hf (by omega) fun l hl => ?_)) i
  · exact pick_ne hf (by omega) (hl.trans hij)
  · exact hp ⟨l, by omega⟩

/-- A stable sort compares an element only with later ones: two relations that agree there sort alike. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort by value alone is the sort by value and then position. -/
theorem sortedFrom_value (R : Fin N → Fin N → Bool) (hR : ∀ a b, R a b = decide (f b < f a)) :
    sortedFrom R = sortedFrom (before f) := by
  have e : sortPositions N R = sortPositions N (before f) := by
    refine stableSort_congr_later _ _ _ ((List.pairwise_lt_finRange N).imp fun {a b} hab => ?_)
    rw [hR]
    unfold before
    rw [decide_eq_false (not_lt.mpr (le_of_lt hab) : ¬ b < a), Bool.and_false, Bool.or_false]
  funext k
  unfold sortedFrom
  rw [List.get_of_eq e]
  rfl

end Cert.Sparse

end
-- ==== Proof.Rounds.lean ====
/- The second region's rounds: a round picks, in every row, the first position of the maximum and strikes it out. -/
module

public import proofs.«01_k».proof.Proof.Gen.KernelIdeal.Frame
public import proofs.«01_k».proof.Proof.Order
public import Idealize.ShloMosaic.Lib.Pipeline.ValueKit
public import Idealize.ShloMosaic.Lib.Pointwise

@[expose] public section

set_option maxRecDepth 16384

noncomputable section

namespace Cert.KernelIdeal.Gen

open Idealize.ShloMosaic Idealize.ShloMosaic.TcCoe Idealize.SL.Sem

/-- The position of every entry in its row. -/
def posOf : IVec S16x2048 32 := iota .tc S16x2048 32 [1] iota_S16x2048_d1_w32

/-- A position where the row takes its maximum, 2048 elsewhere. -/
def candsOf (v : FVec Ideal S16x2048 .f32) : IVec S16x2048 32 :=
  select (cmpf .oeq v (broadcastTo S16x2048 (shapeCast S16x1 (multiReduction .maximumf [1] S16 v 0xFF800000#32 reduces_S16x2048_S16 (.inl rfl) rfl)
    shapeCasts_S16_S16x1) broadcasts_S16x1_S16x2048)) posOf (broadcast S16x2048 2048#32)

/-- The least of the candidates of a row. -/
def leastOf (v : IVec S16x2048 32) : IVec S16x1 32 :=
  shapeCast S16x1 (multiReductionI .minsi [1] S16 v 2147483647#32 reduces_S16x2048_S16 rfl) shapeCasts_S16_S16x1

/-- The rows with position `p` of each struck out. -/
def maskOf (p : IVec S16x1 32) (v : FVec Ideal S16x2048 .f32) : FVec Ideal S16x2048 .f32 :=
  select (cmpi .eq posOf (broadcastTo S16x2048 p broadcasts_S16x1_S16x2048)) (broadcast S16x2048 (Scalar.ofBits .f32 0xFF800000#32)) v

/-- What a round picks. -/
def pickOf (v : FVec Ideal S16x2048 .f32) : IVec S16x1 32 := leastOf (candsOf v)

/-- What a round leaves. -/
def stepOf (v : FVec Ideal S16x2048 .f32) : FVec Ideal S16x2048 .f32 := maskOf (pickOf v) v

/-- The rows after `k` rounds. -/
def rounds (v : FVec Ideal S16x2048 .f32) : ℕ → FVec Ideal S16x2048 .f32
  | 0 => v
  | k + 1 => stepOf (rounds v k)

/-- A round's pick as the kernel writes it. -/
theorem pickOf_text (v : FVec Ideal S16x2048 .f32) : leastOf (candsOf v) = pickOf v := rfl

/-- A round's masking as the kernel writes it. -/
theorem stepOf_text (v : FVec Ideal S16x2048 .f32) : maskOf (pickOf v) v = stepOf v := rfl

/-- Reading a whole block reads the block. -/
theorem ld_whole (x : Vec Ideal S1x16x2048x128 .f32) : View.ld x r1_0 = x :=
  View.ld_unit_zero (by decide) _ x

/-- The picks of the forty rounds side by side. -/
def picksOf (v : FVec Ideal S16x2048 .f32) : IVec S16x40 32 :=
  concatenate S16x40 1 (List.ofFn fun k : Fin 40 => ⟨S16x1, pickOf (rounds v k)⟩)
    concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x40_d1

/-- Forty pieces of width one side by side, the last of them the least candidates. -/
theorem picks_text (f : ℕ → IVec S16x1 32) (v : IVec S16x2048 32) (h : leastOf v = f 39) :
    k1_pay91 (f 0) (f 1) (f 2) (f 3) (f 4) (f 5) (f 6) (f 7) (f 8) (f 9) (f 10) (f 11) (f 12) (f 13) (f 14) (f 15) (f 16) (f 17) (f 18) (f 19)
      (f 20) (f 21) (f 22) (f 23) (f 24) (f 25) (f 26) (f 27) (f 28) (f 29) (f 30) (f 31) (f 32) (f 33) (f 34) (f 35) (f 36) (f 37) (f 38) v
    = concatenate S16x40 1 (List.ofFn fun k : Fin 40 => ⟨S16x1, f k⟩)
      concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x40_d1 := by
  have e : ∀ g g' : Fin 40 → IVec S16x1 32, g = g' →
      concatenate S16x40 1 (List.ofFn fun k : Fin 40 => ⟨S16x1, g k⟩)
        concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x40_d1
      = concatenate S16x40 1 (List.ofFn fun k : Fin 40 => ⟨S16x1, g' k⟩)
        concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x40_d1 := by
    intro g g' h
    subst h
    rfl
  refine Eq.trans ?_ (e (fun k => if k.val < 39 then f k else leastOf v) _ (funext fun k => ?_))
  · rfl
  · by_cases hk : k.val < 39
    · rw [if_pos hk]
    · rw [if_neg hk, h, show k.val = 39 by omega]

set_option backward.isDefEq.respectTransparency false in
/-- What the region stores: the picks, each moved on by 2048 for every head before its own. -/
theorem top_payload (x : Vec Ideal S1x16x2048x128 .f32) :
    k1_pay1 (k1_pay91 (k1_pay3 x) (k1_pay5 x) (k1_pay7 x) (k1_pay9 (k1_pay93 x) (k1_pay94 x)) (k1_pay11 (k1_pay93 x) (k1_pay94 x))
      (k1_pay13 (k1_pay93 x) (k1_pay94 x)) (k1_pay15 (k1_pay93 x) (k1_pay94 x)) (k1_pay18 (k1_pay93 x) (k1_pay95 x) (k1_pay96 x))
      (k1_pay20 (k1_pay93 x) (k1_pay95 x) (k1_pay96 x)) (k1_pay22 (k1_pay93 x) (k1_pay95 x) (k1_pay96 x)) (k1_pay25 (k1_pay98 x))
      (k1_pay27 (k1_pay93 x) (k1_pay97 x) (k1_pay98 x)) (k1_pay29 (k1_pay93 x) (k1_pay97 x) (k1_pay98 x)) (k1_pay31 (k1_pay93 x)
      (k1_pay97 x) (k1_pay98 x)) (k1_pay34 (k1_pay93 x) (k1_pay100 x)) (k1_pay36 (k1_pay93 x) (k1_pay99 x) (k1_pay100 x)) (k1_pay38
      (k1_pay93 x) (k1_pay99 x) (k1_pay100 x)) (k1_pay40 (k1_pay93 x) (k1_pay99 x) (k1_pay100 x)) (k1_pay42 (k1_pay93 x) (k1_pay101 x))
      (k1_pay44 (k1_pay93 x) (k1_pay101 x)) (k1_pay46 (k1_pay93 x) (k1_pay101 x)) (k1_pay48 (k1_pay93 x) (k1_pay101 x)) (k1_pay51
      (k1_pay93 x) (k1_pay102 x) (k1_pay103 x)) (k1_pay53 (k1_pay93 x) (k1_pay102 x) (k1_pay103 x)) (k1_pay55 (k1_pay93 x) (k1_pay102 x)
      (k1_pay103 x)) (k1_pay58 (k1_pay105 x)) (k1_pay60 (k1_pay93 x) (k1_pay104 x) (k1_pay105 x)) (k1_pay62 (k1_pay93 x) (k1_pay104 x)
      (k1_pay105 x)) (k1_pay64 (k1_pay93 x) (k1_pay104 x) (k1_pay105 x)) (k1_pay67 (k1_pay93 x) (k1_pay107 x)) (k1_pay69 (k1_pay93 x)
      (k1_pay106 x) (k1_pay107 x)) (k1_pay71 (k1_pay93 x) (k1_pay106 x) (k1_pay107 x)) (k1_pay73 (k1_pay93 x) (k1_pay106 x) (k1_pay107
      x)) (k1_pay75 (k1_pay93 x) (k1_pay108 x)) (k1_pay77 (k1_pay93 x) (k1_pay108 x)) (k1_pay79 (k1_pay93 x) (k1_pay108 x)) (k1_pay81
      (k1_pay93 x) (k1_pay108 x)) (k1_pay110 x) (k1_pay112 x) (k1_pay90 (k1_pay93 x) (k1_pay89 (k1_pay93 x) (k1_pay111 x) (k1_pay112
      x)))) (iota .tc S16x40 32 [0] iota_S16x40_d0_w32) (k1_pay92)
    = k1_pay1 (picksOf (k1_pay2 x)) (iota .tc S16x40 32 [0] iota_S16x40_d0_w32) k1_pay92 := by
  refine congrArg (fun z => k1_pay1 z _ _) ?_
  have hp : k1_pay93 x = posOf := rfl
  have hc : ∀ v : FVec Ideal S16x2048 .f32, k1_pay90 posOf v = candsOf v := fun _ => rfl
  have hl : ∀ v, k1_pay25 v = leastOf v := fun _ => rfl
  have hm : ∀ (v : FVec Ideal S16x2048 .f32) p, k1_pay89 posOf v p = maskOf p v := fun _ _ => rfl
  simp only [k1_pay93] at hp
  simp only [k1_pay90] at hc
  simp only [k1_pay25] at hl
  simp only [k1_pay89] at hm
  simp only [k1_pay112, k1_pay111, k1_pay110, k1_pay109, k1_pay108, k1_pay107, k1_pay106, k1_pay105, k1_pay104, k1_pay103, k1_pay102,
    k1_pay101, k1_pay100, k1_pay99, k1_pay98, k1_pay97, k1_pay96, k1_pay95, k1_pay94, k1_pay93, k1_pay92,  k1_pay90,
    k1_pay89, k1_pay88, k1_pay87, k1_pay86, k1_pay85, k1_pay84, k1_pay83, k1_pay82, k1_pay81, k1_pay80, k1_pay79, k1_pay78, k1_pay77,
    k1_pay76, k1_pay75, k1_pay74, k1_pay73, k1_pay72, k1_pay71, k1_pay70, k1_pay69, k1_pay68, k1_pay67, k1_pay66, k1_pay65, k1_pay64,
    k1_pay63, k1_pay62, k1_pay61, k1_pay60, k1_pay59, k1_pay58, k1_pay57, k1_pay56, k1_pay55, k1_pay54, k1_pay53, k1_pay52, k1_pay51,
    k1_pay50, k1_pay49, k1_pay48, k1_pay47, k1_pay46, k1_pay45, k1_pay44, k1_pay43, k1_pay42, k1_pay41, k1_pay40, k1_pay39, k1_pay38,
    k1_pay37, k1_pay36, k1_pay35, k1_pay34, k1_pay33, k1_pay32, k1_pay31, k1_pay30, k1_pay29, k1_pay28, k1_pay27, k1_pay26, k1_pay25,
    k1_pay24, k1_pay23, k1_pay22, k1_pay21, k1_pay20, k1_pay19, k1_pay18, k1_pay17, k1_pay16, k1_pay15, k1_pay14, k1_pay13, k1_pay12,
    k1_pay11, k1_pay10, k1_pay9, k1_pay8, k1_pay7, k1_pay6, k1_pay5, k1_pay4, k1_pay3, k1_pay1,
    ld_whole, hp, hc, hl, hm, pickOf_text, stepOf_text]
  exact picks_text (fun k => pickOf (rounds (k1_pay2 x) k)) _ rfl

end Cert.KernelIdeal.Gen

end
-- ==== Proof.Rows.lean ====
/- What the second region stores, row by row: the first maxima found by striking out, moved on by the head's offset. -/
module

public import proofs.«01_k».proof.Proof.Rounds

@[expose] public section

set_option maxRecDepth 16384

noncomputable section

namespace Cert.KernelIdeal.Gen

open Idealize.ShloMosaic Idealize.ShloMosaic.TcCoe Idealize.SL.Sem Cert.Sparse

/-- A row of a matrix. -/
def rowOf (v : FVec Ideal S16x2048 .f32) (h : Fin 16) : Fin 2048 → EReal := fun n => v (ix2 h n)

/-- The pattern of minus infinity. -/
theorem ofBits_minus_infinity : Ideal.ofBits .f32 0xFF800000#32 = (⊥ : EReal) := by
  simp [Ideal.ofBits, Ideal.ieee]

/-- The maximum of a row is its value at the first maximum. -/
theorem fold_max_eq (f : Fin 2048 → EReal) : Finset.fold max ⊥ f Finset.univ = f (firstMax f) :=
  le_antisymm ((Finset.fold_max_le _).mpr ⟨bot_le, fun n _ => (firstMax_spec f).ge n⟩)
    (Finset.le_fold_max (f (firstMax f)) |>.mpr (Or.inr ⟨firstMax f, Finset.mem_univ _, le_rfl⟩))

/-- The lesser of two words as a signed number. -/
theorem minsi_toInt (a b : BitVec 32) : (IntOp.minsi a b).toInt = min a.toInt b.toInt := by
  unfold IntOp.minsi
  rw [BitVec.slt_eq_decide]
  by_cases h : a.toInt < b.toInt
  · simp [h, h.le]
  · simp [h, not_lt.mp h]

/-- The least of the positions where the row takes its maximum. -/
theorem fold_minsi_eq (f : Fin 2048 → EReal) :
    Finset.fold IntOp.minsi 2147483647#32 (fun n => if f n = f (firstMax f) then BitVec.ofNat 32 n.val else 2048#32) Finset.univ
    = BitVec.ofNat 32 (firstMax f).val := by
  have hp := (firstMax f).isLt
  have hint : ∀ n : ℕ, n ≤ 2048 → (BitVec.ofNat 32 n).toInt = (n : Int) := fun n h => Idealize.ShloMosaic.WordCmp.toInt_ofNat_of_lt (by omega)
  apply BitVec.eq_of_toInt_eq
  rw [← Finset.fold_hom (op' := min) minsi_toInt, hint _ hp.le]
  refine le_antisymm ((Finset.fold_min_le _).mpr (Or.inr ⟨firstMax f, Finset.mem_univ _, ?_⟩))
    ((Finset.le_fold_min _).mpr ⟨?_, fun n _ => ?_⟩)
  · rw [if_pos rfl, hint _ hp.le]
  · have : (2147483647#32).toInt = 2147483647 := by decide
    omega
  · by_cases h : f n = f (firstMax f)
    · rw [if_pos h, hint _ n.isLt.le]
      have := (firstMax_spec f).first n h
      have : (firstMax f).val ≤ n.val := this
      omega
    · rw [if_neg h, hint 2048 le_rfl]
      omega

/-- A round picks the first maximum of every row. -/
theorem pickOf_at (v : FVec Ideal S16x2048 .f32) (h : Fin 16) :
    pickOf v (ix2 h 0) = BitVec.ofNat 32 (firstMax (rowOf v h)).val := by
  pointwise [pickOf, leastOf, candsOf, posOf]
  rw [ofBits_minus_infinity]
  refine Eq.trans ?_ (fold_minsi_eq (rowOf v h))
  rw [← fold_max_eq (rowOf v h)]
  rfl

/-- Two positions are equal when their words are. -/
theorem ofNat_inj {a b : Fin 2048} : BitVec.ofNat 32 a.val = BitVec.ofNat 32 b.val ↔ a = b := by
  have ha := a.isLt
  have hb := b.isLt
  constructor
  · intro h
    have := congrArg BitVec.toNat h
    rw [BitVec.toNat_ofNat, BitVec.toNat_ofNat, Nat.mod_eq_of_lt (by omega), Nat.mod_eq_of_lt (by omega)] at this
    exact Fin.ext this
  · rintro rfl
    rfl

/-- A choice by the equality of two positions' words. -/
theorem select_eq {α : Type} (a b : Fin 2048) (x y : α) :
    Scalar.select (IntOp.cmpi .eq (BitVec.ofNat 32 a.val) (BitVec.ofNat 32 b.val)) x y = if a = b then x else y := by
  by_cases h : a = b
  · subst h
    rw [if_pos rfl]
    simp [Scalar.select, IntOp.cmpi]
  · rw [if_neg h]
    have : ¬ BitVec.ofNat 32 a.val = BitVec.ofNat 32 b.val := fun e => h (ofNat_inj.mp e)
    have e : (BitVec.ofNat 32 a.val == BitVec.ofNat 32 b.val) = false := by simpa using this
    unfold Scalar.select IntOp.cmpi
    rw [e]
    rfl

/-- A round strikes out the first maximum of every row. -/
theorem stepOf_row (v : FVec Ideal S16x2048 .f32) (h : Fin 16) :
    rowOf (stepOf v) h = strike (rowOf v h) (firstMax (rowOf v h)) := by
  funext n
  unfold rowOf
  pointwise [stepOf, maskOf, posOf]
  rw [pickOf_at, select_eq, ofBits_minus_infinity]
  rfl

/-- The rows after `k` rounds. -/
theorem rounds_row (v : FVec Ideal S16x2048 .f32) (h : Fin 16) (k : ℕ) : rowOf (rounds v k) h = left (rowOf v h) k := by
  induction k with
  | zero => rfl
  | succ k ih =>
    show rowOf (stepOf (rounds v k)) h = strike (left (rowOf v h) k) (firstMax (left (rowOf v h) k))
    rw [stepOf_row, ih]

/-- The squared norm of a query. -/
theorem norms_at (x : Vec Ideal S1x16x2048x128 .f32) (h : Fin 16) (n : Fin 2048) :
    k1_pay2 x (ix2 h n) = ∑ d : Fin 128, x (ix4 0 h n d) * x (ix4 0 h n d) := by
  pointwise [k1_pay2]

/-- The picks side by side, at an entry. -/
theorem picksOf_at (v : FVec Ideal S16x2048 .f32) (h : Fin 16) (u : Fin 40) :
    picksOf v (ix2 h u) = BitVec.ofNat 32 (pick (rowOf v h) u.val).val := by
  unfold picksOf
  refine concatenate_ofFn_unit_eq _ _ _ _ _ rfl rfl fun n i hn h0 hi => ?_
  have hu : u = n := Fin.ext hn
  subst hu
  have e : i = ix2 h 0 := by
    funext a
    fin_cases a
    · exact Fin.ext (hi 0 (by decide))
    · exact Fin.ext h0
  rw [e, pickOf_at, rounds_row]
  rfl

/-- What the second region stores for a head and a round: the position picked, moved on by the head's offset. -/
theorem top_at (x : Vec Ideal S1x16x2048x128 .f32) (h : Fin 16) (u : Fin 40) :
    k1_pay1 (picksOf (k1_pay2 x)) (iota .tc S16x40 32 [0] iota_S16x40_d0_w32) k1_pay92 (ix3 h 0 u)
    = BitVec.ofNat 32 ((pick (rowOf (k1_pay2 x) h) u.val).val + h.val * 2048) := by
  pointwise [k1_pay1, k1_pay92]
  rw [picksOf_at]
  unfold IntOp.addi IntOp.muli
  rw [show (2048#32 : BitVec 32) = BitVec.ofNat 32 2048 from rfl, ← BitVec.ofNat_mul, ← BitVec.ofNat_add]

end Cert.KernelIdeal.Gen

end
-- ==== Proof.Attend.lean ====
/- The third region's body: for every picked position a row of attention, put back at the position it was picked from. -/
module

public import proofs.«01_k».proof.Proof.Rows

@[expose] public section

set_option maxRecDepth 16384

noncomputable section

namespace Cert.Sparse

open Idealize.ShloMosaic

/-- The scale of the scores. -/
def scale : EReal := Ideal.ofBits .f32 0x3DB504F3#32

/-- The maximum of a row. -/
def top (f : Fin 2048 → EReal) : EReal := Finset.fold max ⊥ f Finset.univ

/-- The softmax of a row. -/
def soft (f : Fin 2048 → EReal) (m : Fin 2048) : EReal :=
  Ideal.div (Ideal.exp (f m - top f)) (∑ l, Ideal.exp (f l - top f))

/-- The scores of the query at `p` against every key. -/
def scores (q k : Fin 2048 → Fin 128 → EReal) (p m : Fin 2048) : EReal := (∑ d, q p d * k m d) * scale

/-- The values weighted by the softmax of the softmax of the scores of the query at `p`. -/
def attend (q k v : Fin 2048 → Fin 128 → EReal) (p : Fin 2048) (d : Fin 128) : EReal :=
  ∑ m, soft (soft (scores q k p)) m * v m d

end Cert.Sparse

namespace Cert.KernelIdeal.Gen

open Idealize.ShloMosaic Idealize.ShloMosaic.TcCoe Idealize.SL.Sem Cert.Sparse

/-- The rows of a block of one head. -/
def matOf (x : Vec Ideal S1x1x2048x128 .f32) : Fin 2048 → Fin 128 → EReal := fun n d => x (ix4 0 0 n d)

/-- A word moved on by a head's offset and back. -/
theorem offset_back (p h : ℕ) :
    IntOp.subi (BitVec.ofNat 32 (p + h * 2048)) (Scalar.muli (BitVec.ofNat 32 h) 2048#32) = BitVec.ofNat 32 p := by
  show BitVec.ofNat 32 (p + h * 2048) - BitVec.ofNat 32 h * 2048#32 = _
  rw [show (2048#32 : BitVec 32) = BitVec.ofNat 32 2048 from rfl, ← BitVec.ofNat_mul, BitVec.ofNat_add, BitVec.add_sub_cancel]

/-- An entry of the one-hot matrix: one where the position is the one picked. -/
theorem onehot_at (i : grid2.Coords) (idx : Vec Ideal S1x1x40 .i32) (p : Fin 2048) (u : Fin 40)
    (h : idx (ix3 0 0 u) = BitVec.ofNat 32 (p.val + (i 0).val * 2048)) (n : Fin 2048) :
    k2_pay3 (F := Ideal) i idx (ix2 n u) = if n = p then (1 : EReal) else 0 := by
  pointwise [k2_pay3]
  rw [h, offset_back]
  by_cases e : n = p
  · subst e
    rw [if_pos rfl, show IntOp.cmpi .eq (BitVec.ofNat 32 n.val) (BitVec.ofNat 32 n.val) = 1#1 by simp [IntOp.cmpi]]
    show (((BitVec.setWidth 32 1#1).toInt : ℝ) : EReal) = 1
    rw [show (BitVec.setWidth 32 1#1).toInt = 1 by decide]
    simp
  · have e' : (BitVec.ofNat 32 n.val == BitVec.ofNat 32 p.val) = false := by simpa using fun e' => e (ofNat_inj.mp e')
    rw [if_neg e, show IntOp.cmpi .eq (BitVec.ofNat 32 n.val) (BitVec.ofNat 32 p.val) = 0#1 by unfold IntOp.cmpi; rw [e']; rfl]
    show (((BitVec.setWidth 32 0#1).toInt : ℝ) : EReal) = 0
    rw [show (BitVec.setWidth 32 0#1).toInt = 0 by decide]
    simp

/-- A sum against a row of the one-hot matrix is the entry picked. -/
theorem sum_onehot (p : Fin 2048) (f : Fin 2048 → EReal) : (∑ n, (if n = p then (1 : EReal) else 0) * f n) = f p := by
  simp only [ite_mul, one_mul, zero_mul, Finset.sum_ite_eq', Finset.mem_univ, if_true]

/-- The exponentials the second softmax divides. -/
theorem pay4_at (i : grid2.Coords) (q k : Vec Ideal S1x1x2048x128 .f32) (idx : Vec Ideal S1x1x40 .i32) (p : Fin 2048) (u : Fin 40)
    (h : idx (ix3 0 0 u) = BitVec.ofNat 32 (p.val + (i 0).val * 2048)) (n : Fin 2048) :
    k2_pay4 (F := Ideal) i q k idx (ix2 u n)
    = Ideal.exp (soft (scores (matOf q) (matOf k) p) n - top (soft (scores (matOf q) (matOf k) p))) := by
  have e : ∀ m : Fin 2048, (∑ d : Fin 128, (∑ x : Fin 2048, k2_pay3 (F := Ideal) i idx (ix2 x u) * q (ix4 0 0 x d)) * k (ix4 0 0 m d))
      * Ideal.ofBits .f32 0x3DB504F3#32 = scores (matOf q) (matOf k) p m := by
    intro m
    simp only [onehot_at i idx p u h, sum_onehot]
    rfl
  pointwise [k2_pay4]
  simp only [e, ofBits_minus_infinity]
  rfl

/-- What the third region stores: the attention of a picked position, minus infinity at any other. -/
theorem attended_at (i : grid2.Coords) (q k v : Vec Ideal S1x1x2048x128 .f32) (idx : Vec Ideal S1x1x40 .i32) (σ : Fin 40 → Fin 2048)
    (hσ : Function.Injective σ) (h : ∀ u, idx (ix3 0 0 u) = BitVec.ofNat 32 ((σ u).val + (i 0).val * 2048)) (n : Fin 2048) (d : Fin 128) :
    k2_pay1 (F := Ideal) (k2_pay2 v) (k2_pay3 i idx) (k2_pay4 i q k idx) (k2_pay5 i q k idx) (ix2 n d)
    = if ∃ u, σ u = n then attend (matOf q) (matOf k) (matOf v) n d else ⊥ := by
  have hrow : ∀ u, (∑ m : Fin 2048, Ideal.div (k2_pay4 (F := Ideal) i q k idx (ix2 u m)) (k2_pay5 (F := Ideal) i q k idx (ix2 u 0))
      * k2_pay2 (F := Ideal) v (ix2 m d)) = attend (matOf q) (matOf k) (matOf v) (σ u) d := by
    intro u
    refine Finset.sum_congr rfl fun m _ => ?_
    pointwise [k2_pay5, k2_pay2]
    simp only [pay4_at i q k idx (σ u) u (h u)]
    rfl
  pointwise [k2_pay1]
  simp only [hrow, fun u => onehot_at i idx (σ u) u (h u) n]
  by_cases hn : ∃ u, σ u = n
  · obtain ⟨w, rfl⟩ := hn
    have hw : ∀ u, σ w = σ u ↔ u = w := fun u => ⟨fun e => (hσ e).symm, fun e => by rw [e]⟩
    simp only [hw, ite_mul, one_mul, zero_mul, Finset.sum_ite_eq', Finset.mem_univ, if_true]
    have hex : ∃ u, σ u = σ w := ⟨w, rfl⟩
    rw [if_pos hex]
    exact if_pos zero_lt_one
  · rw [if_neg hn]
    have hw : ∀ u, ¬ n = σ u := fun u e => hn ⟨u, e.symm⟩
    simp only [hw, if_false, Finset.sum_const_zero, lt_irrefl]
    simp [Ideal.ofBits, Ideal.ieee]

end Cert.KernelIdeal.Gen

end
-- ==== Proof.Middle.lean ====
/- What the second and the third call leave in their result arrays: the positions of the largest norms, head by head, and
   the attention of the picked positions. -/
module

public import proofs.«01_k».proof.Proof.Attend
public import Idealize.ShloMosaic.Lib.Pipeline.ValueKit

@[expose] public section

set_option maxRecDepth 16384

noncomputable section

namespace Cert.KernelIdeal.Gen

open Idealize.ShloMosaic Idealize.ShloMosaic.TcCoe Idealize.SL.Sem Cert.Sparse
open Idealize.ShloMosaic.Pipeline (Dat)

variable (V : (c : Dev nD) → (b : Ref sig .tc) → Buf (Elt Ideal) ((c : Thread nD τ).loc b))

/-- The rows of head `h` of the queries (`s = 0`), the keys (1) or the values (2). -/
def headOf (A : FVec Ideal S3x16x2048x128 .f32) (s : Fin 3) (h : Fin 16) : Fin 2048 → Fin 128 → EReal :=
  fun n d => A (ix4 s h n d)

/-- The square of the length of each query of head `h`. -/
def lengths (A : FVec Ideal S3x16x2048x128 .f32) (h : Fin 16) : Fin 2048 → EReal :=
  fun n => ∑ d, headOf A 0 h n d * headOf A 0 h n d

/-- The `u`-th largest query of head `h`. -/
def chosen (A : FVec Ideal S3x16x2048x128 .f32) (h : Fin 16) (u : Fin 40) : Fin 2048 := pick (lengths A h) u.val

/-! ## The second call -/

/-- The one step of the selection reads and writes the first block. -/
theorem idx1 : ∀ t : Fin cfg1.N, win1_0.index t = ![0, 0, 0, 0] ∧ win1_1.index t = ![0, 0, 0] :=
  (by decide +kernel : ∀ t : Fin grid1.N, _)

/-- The block the selection reads holds every head's queries. -/
theorem block1 (c : Dev nD) (h : Fin 16) (n : Fin 2048) (d : Fin 128) :
    iblk1 V c 0 t1_0 (ix4 0 h n d) = headOf (V c main_v4) 0 h n d := by
  unfold headOf
  blk_ext [iblk1, idx1 t1_0]

/-- The second call's result: for each head the places of the largest queries, from the head's offset. -/
theorem final1 (c : Dev nD) : (dat1 V c).arrAt 1 cfg1.N
    = fun j : S16x1x40.Idx => BitVec.ofNat 32 ((chosen (V c main_v4) (j 0) (j 2)).val + (j 0).val * 2048) := by
  have hr : ∀ h, rowOf (k1_pay2 (F := Ideal) (iblk1 V c 0 t1_0)) h = lengths (V c main_v4) h := by
    intro h
    funext n
    show k1_pay2 (F := Ideal) (iblk1 V c 0 t1_0) (ix2 h n) = _
    rw [norms_at]
    simp only [block1, lengths]
  refine (dat1 V c).arrAt_eq_of_after_last 1 t1_0 (by decide +kernel) _ fun j => ?_
  blk_simp
  rw [after1_1]; frame_out
  refine (congrFun (top_payload (iblk1 V c 0 t1_0)) j).trans ?_
  have hj : j = ix3 (j 0) 0 (j 2) := by blk_ext
  rw [hj]
  refine (top_at (iblk1 V c 0 t1_0) (j 0) (j 2)).trans ?_
  exact congrArg (fun f => BitVec.ofNat 32 ((pick f (j 2).val).val + (j 0).val * 2048)) (hr (j 0))

/-! ## The third call -/

/-- The head a column of the attended rows belongs to, and the entry of the head it holds. -/
def headIn (o : Fin 2048) : Fin 16 := ⟨o.val / 128, by omega⟩
/-- The entry of its head that a result column belongs to. -/
def entryIn (o : Fin 2048) : Fin 128 := ⟨o.val % 128, by omega⟩

open Classical in
/-- A row of attention of a head at each picked position, minus infinity at any other. -/
def attendedAt (A : FVec Ideal S3x16x2048x128 .f32) (σ : Fin 16 → Fin 40 → Fin 2048) (h : Fin 16) (n : Fin 2048) (d : Fin 128) : EReal :=
  if ∃ u, σ h u = n then attend (headOf A 0 h) (headOf A 1 h) (headOf A 2 h) n d else ⊥

/-- The attended entry, whichever way the membership test is decided. -/
theorem attendedAt_eq (A : FVec Ideal S3x16x2048x128 .f32) (σ : Fin 16 → Fin 40 → Fin 2048) (h : Fin 16) (n : Fin 2048) (d : Fin 128)
    {_ : Decidable (∃ u, σ h u = n)} :
    (if ∃ u, σ h u = n then attend (headOf A 0 h) (headOf A 1 h) (headOf A 2 h) n d else ⊥) = attendedAt A σ h n d := by
  unfold attendedAt
  congr

/-- The attended rows of all heads, head after head along the columns. -/
def attended (A : FVec Ideal S3x16x2048x128 .f32) (σ : Fin 16 → Fin 40 → Fin 2048) : FVec Ideal S2048x2048 .bf16 :=
  fun j => attendedAt A σ (headIn (j 1)) (j 0) (entryIn (j 1))

/-- The attended rows at the column of an entry of a head. -/
theorem attended_block (A : FVec Ideal S3x16x2048x128 .f32) (σ : Fin 16 → Fin 40 → Fin 2048) (h : Fin 16) (n : Fin 2048) (d : Fin 128) :
    attended A σ (ix2 n (⟨h.val * 128 + d.val, by omega⟩ : Fin 2048)) = attendedAt A σ h n d := by
  show attendedAt A σ (headIn ⟨h.val * 128 + d.val, _⟩) n (entryIn ⟨h.val * 128 + d.val, _⟩) = _
  have e1 : headIn (⟨h.val * 128 + d.val, by omega⟩ : Fin 2048) = h := by
    apply Fin.ext; show (h.val * 128 + d.val) / 128 = h.val; omega
  have e2 : entryIn (⟨h.val * 128 + d.val, by omega⟩ : Fin 2048) = d := by
    apply Fin.ext; show (h.val * 128 + d.val) % 128 = d.val; omega
  rw [e1, e2]

/-- The blocks step `t` of the attention reads: its head's queries, keys, values and positions. -/
theorem idx2 : ∀ t : Fin cfg2.N, win2_0.index t = ![0, t.val, 0, 0] ∧ win2_1.index t = ![1, t.val, 0, 0]
    ∧ win2_2.index t = ![2, t.val, 0, 0] ∧ win2_3.index t = ![t.val, 0, 0] ∧ win2_4.index t = ![0, t.val]
    ∧ t.val < 16 ∧ (grid2.coords t 0).val = t.val :=
  (by decide +kernel : ∀ t : Fin grid2.N, _)

/-- The third call's result, from the positions the second left. -/
theorem final2 (c : Dev nD) (σ : Fin 16 → Fin 40 → Fin 2048) (hσ : ∀ h, Function.Injective (σ h))
    (hI : ∀ h u, (V c main_v5 : IVec S16x1x40 32) (ix3 h 0 u) = BitVec.ofNat 32 ((σ h u).val + h.val * 2048)) :
    (dat2 V c).arrAt 4 cfg2.N = attended (V c main_v4) σ := by
  refine (dat2 V c).arrAt_eq_of_covers 4 _ (by decide +kernel) fun t _ y => ?_
  blk_simp
  rw [after2_4]; frame_out
  obtain ⟨-, -, -, -, -, ht, hc⟩ := idx2 t
  have hq : matOf (iblk2 V c 0 t) = headOf (V c main_v4) 0 ⟨t.val, ht⟩ := by
    funext n d; unfold matOf headOf; blk_ext [iblk2, idx2 t]
  have hk : matOf (iblk2 V c 1 t) = headOf (V c main_v4) 1 ⟨t.val, ht⟩ := by
    funext n d; unfold matOf headOf; blk_ext [iblk2, idx2 t]
  have hv : matOf (iblk2 V c 2 t) = headOf (V c main_v4) 2 ⟨t.val, ht⟩ := by
    funext n d; unfold matOf headOf; blk_ext [iblk2, idx2 t]
  have hi : ∀ u, iblk2 V c 3 t (ix3 0 0 u) = BitVec.ofNat 32 ((σ ⟨t.val, ht⟩ u).val + (grid2.coords t 0).val * 2048) := by
    intro u
    rw [hc, ← hI ⟨t.val, ht⟩ u]
    blk_ext [iblk2, idx2 t]
  have hy : y = ix2 (y 0) (y 1) := by blk_ext
  rw [hy]
  refine (attended_at (grid2.coords t) (iblk2 V c 0 t) (iblk2 V c 1 t) (iblk2 V c 2 t) (iblk2 V c 3 t) (σ ⟨t.val, ht⟩)
    (hσ _) hi (y 0) (y 1)).trans ?_
  rw [hq, hk, hv]
  have e : ((cfg2.win 4).blk t).view.emb (ix2 (y 0) (y 1)) = ix2 (y 0) (⟨t.val * 128 + (y 1).val, by idx_bounds; omega⟩ : Fin 2048) := by
    blk_ext [idx2 t]
  refine Eq.trans ?_ (congrArg (attended (V c main_v4) σ) e).symm
  refine Eq.trans ?_ (attended_block (V c main_v4) σ ⟨t.val, ht⟩ (y 0) (y 1)).symm
  exact attendedAt_eq (V c main_v4) σ ⟨t.val, ht⟩ (y 0) (y 1)

end Cert.KernelIdeal.Gen

end
-- ==== Proof.Whole.lean ====
/- The kernel's result as a function of its arguments. -/
module

public import proofs.«01_k».proof.Proof.Calls
public import proofs.«01_k».proof.Proof.Middle
public import Idealize.ShloMosaic.Lib.StableHlo.Run
public import Idealize.ShloMosaic.Lib.Pointwise

@[expose] public section

set_option maxRecDepth 16384

noncomputable section

namespace Cert.KernelIdeal.Gen

open Idealize.ShloMosaic Idealize.ShloMosaic.TcCoe Idealize.SL.Sem Cert.Sparse Idealize.ShloMosaic.StableHlo
open Idealize.ShloMosaic.Pipeline (Dat)

/-- The queries, keys and values of every head. -/
def heads (X : FVec Ideal S1x2048x2048 .f32) (W : FVec Ideal S2048x6144 .f32) (b : FVec Ideal S6144 .f32) : FVec Ideal S3x16x2048x128 .f32 :=
  fun j => (∑ k : Fin 2048, X (ix3 0 (j 2) k) * W (ix2 k (col (j 0) (j 1) (j 3)))) + b (ix1 (col (j 0) (j 1) (j 3)))

/-- An entry of the result: a row of the attended heads against a column of the output weights, plus the bias of the column. -/
def resultAt (A : FVec Ideal S3x16x2048x128 .f32) (Wo : FVec Ideal S2048x2048 .f32) (bo : FVec Ideal S2048 .f32) (n o : Fin 2048) : EReal :=
  (∑ k : Fin 2048, attendedAt A (chosen A) (headIn k) n (entryIn k) * Wo (ix2 k o)) + bo (ix1 o)

variable (m : (ℓ : Loc nD τ sig) → Buf (Elt Ideal) ℓ) (ρ : Dev nD → PrngReg)

/-- The heads of the launch arguments. -/
abbrev headsAt (c : Dev nD) : FVec Ideal S3x16x2048x128 .f32 :=
  heads (m ((c : Thread nD τ).loc main_arg0)) (m ((c : Thread nD τ).loc main_arg1)) (m ((c : Thread nD τ).loc main_arg2))

/-- The first call reads the query as a matrix. -/
theorem W1_v1 (c : Dev nD) : V1 m ρ c main_v1 = truncf (F := Ideal) .bf16 (shapeCast S2048x2048 (m ((c : Thread nD τ).loc main_arg0)) shapeCasts_S1x2048x2048_S2048x2048) bitsLt_bf16_f32 := by
  show after hostOps0 (W0 m ρ c) (Proc.devRef .tc main_v1) = _
  after_results
  rfl
/-- The first call reads the weights. -/
theorem W1_v2 (c : Dev nD) : V1 m ρ c main_v2 = truncf (F := Ideal) .bf16 (m ((c : Thread nD τ).loc main_arg1)) bitsLt_bf16_f32 := by
  show after hostOps0 (W0 m ρ c) (Proc.devRef .tc main_v2) = _
  after_results
/-- The first call reads the bias in twelve rows. -/
theorem W1_v3 (c : Dev nD) : V1 m ρ c main_v3 = shapeCast S12x1x512 (m ((c : Thread nD τ).loc main_arg2)) shapeCasts_S6144_S12x1x512 := by
  show after hostOps0 (W0 m ρ c) (Proc.devRef .tc main_v3) = _
  after_results
  rfl
/-- The last call reads the output weights. -/
theorem W5_v7 (c : Dev nD) : V5 m ρ c main_v7 = truncf (F := Ideal) .bf16 (m ((c : Thread nD τ).loc main_arg3)) bitsLt_bf16_f32 := by
  rw [← W4_args m ρ c main_arg3 (by decide)]
  show after hostOps3 (W4 m ρ c) (Proc.devRef .tc main_v7) = _
  after_results
/-- The last call reads the output bias as a row. -/
theorem W5_v8 (c : Dev nD) : V5 m ρ c main_v8 = shapeCast S1x2048 (m ((c : Thread nD τ).loc main_arg4)) shapeCasts_S2048_S1x2048 := by
  rw [← W4_args m ρ c main_arg4 (by decide)]
  show after hostOps3 (W4 m ρ c) (Proc.devRef .tc main_v8) = _
  after_results
  rfl
/-- The result is the last call's, with its leading axis. -/
theorem W7_v10 (c : Dev nD) : W7 m ρ c (Proc.devRef .tc main_v10) = shapeCast S1x2048x2048 (V6 m ρ c main_v9) shapeCasts_S2048x2048_S1x2048x2048 := by
  show after hostOps4 (W6 m ρ c) (Proc.devRef .tc main_v10) = _
  after_results
  rfl

/-- The projections of the arguments as the first call meets them are the heads. -/
theorem projs_heads (X : FVec Ideal S1x2048x2048 .f32) (W : FVec Ideal S2048x6144 .f32) (b : FVec Ideal S6144 .f32) :
    projs (truncf .bf16 (shapeCast S2048x2048 X shapeCasts_S1x2048x2048_S2048x2048) bitsLt_bf16_f32) (truncf .bf16 W bitsLt_bf16_f32)
      (shapeCast S12x1x512 b shapeCasts_S6144_S12x1x512) = heads X W b := by
  funext j
  pointwise [projs, heads]
  blk_point [col]

/-- The first call leaves the heads. -/
theorem V2_v4 (c : Dev nD) : V2 m ρ c main_v4 = headsAt m c := by
  refine (W2_arr m ρ c 3).trans ((final0 (V1 m ρ) c).trans ?_)
  rw [W1_v1, W1_v2, W1_v3]
  exact projs_heads _ _ _

/-- The heads are still there after the selection. -/
theorem V3_v4 (c : Dev nD) : V3 m ρ c main_v4 = headsAt m c :=
  (W3_of m ρ c main_v4 (by decide +kernel)).trans (V2_v4 m ρ c)

/-- The selection leaves the chosen positions, numbered across heads. -/
theorem V3_v5 (c : Dev nD) (h : Fin 16) (u : Fin 40) :
    (V3 m ρ c main_v5 : IVec S16x1x40 32) (ix3 h 0 u) = BitVec.ofNat 32 ((chosen (headsAt m c) h u).val + h.val * 2048) := by
  have e : V3 m ρ c main_v5 = _ := (W3_arr m ρ c 1).trans (final1 (V2 m ρ) c)
  rw [e, V2_v4]
  rfl

/-- A square is not negative. -/
theorem square_nonneg (x : EReal) : 0 ≤ x * x := by
  rcases le_total 0 x with h | h
  · exact EReal.mul_nonneg h h
  · have e : x * x = -x * -x := by rw [neg_mul, mul_neg, neg_neg]
    rw [e]
    have h' : 0 ≤ -x := EReal.neg_nonneg.mpr h
    exact EReal.mul_nonneg h' h'

/-- A squared length is not negative. -/
theorem lengths_nonneg (A : FVec Ideal S3x16x2048x128 .f32) (h : Fin 16) (n : Fin 2048) : 0 ≤ lengths A h n :=
  Finset.sum_nonneg fun d _ => square_nonneg _

/-- A squared length is above minus infinity. -/
theorem lengths_gt (A : FVec Ideal S3x16x2048x128 .f32) (h : Fin 16) (n : Fin 2048) : ⊥ < lengths A h n :=
  lt_of_lt_of_le EReal.bot_lt_zero (lengths_nonneg A h n)

/-- No query is picked twice. -/
theorem chosen_injective (A : FVec Ideal S3x16x2048x128 .f32) (h : Fin 16) : Function.Injective (chosen A h) :=
  pick_injective (by omega) (lengths_gt A h)

/-- The attention leaves the attended rows. -/
theorem V5_v6 (c : Dev nD) : V5 m ρ c main_v6 = attended (headsAt m c) (chosen (headsAt m c)) := by
  refine (W5_of m ρ c main_v6 (by decide)).trans ((W4_arr m ρ c 4).trans ?_)
  rw [final2 (V3 m ρ) c (chosen (headsAt m c)) (chosen_injective _) (V3_v5 m ρ c), V3_v4]

/-- The last call leaves their projection. -/
theorem V6_v9 (c : Dev nD) : V6 m ρ c main_v9
    = outProj (attended (headsAt m c) (chosen (headsAt m c)))
        (truncf (F := Ideal) .bf16 (m ((c : Thread nD τ).loc main_arg3)) bitsLt_bf16_f32)
        (shapeCast S1x2048 (m ((c : Thread nD τ).loc main_arg4)) shapeCasts_S2048_S1x2048) := by
  refine (W6_arr m ρ c 3).trans ((final3 (V5 m ρ) c).trans ?_)
  rw [V5_v6, W5_v7, W5_v8]

/-- The outer projection of the attended heads, entry by entry. -/
theorem outProj_at (A : FVec Ideal S3x16x2048x128 .f32) (Wo : FVec Ideal S2048x2048 .f32) (bo : FVec Ideal S2048 .f32) (n o : Fin 2048) :
    shapeCast S1x2048x2048 (outProj (attended A (chosen A)) (truncf .bf16 Wo bitsLt_bf16_f32) (shapeCast S1x2048 bo shapeCasts_S2048_S1x2048))
      shapeCasts_S2048x2048_S1x2048x2048 (ix3 0 n o) = resultAt A Wo bo n o := by
  pointwise [outProj, resultAt, attended]

/-- The kernel's result. -/
theorem result_at (c : Dev nD) :
    W7 m ρ c (Proc.devRef .tc main_v10) = fun j : S1x2048x2048.Idx =>
      resultAt (headsAt m c) (m ((c : Thread nD τ).loc main_arg3)) (m ((c : Thread nD τ).loc main_arg4)) (j 1) (j 2) := by
  rw [W7_v10, V6_v9]
  funext j
  have hj : j = ix3 0 (j 1) (j 2) := by blk_ext
  rw [hj]
  exact outProj_at _ _ _ (j 1) (j 2)

end Cert.KernelIdeal.Gen

end
-- ==== Proof.RefPick.lean ====
/- The reference's heads, the lengths of its queries, and the positions its selection finds. -/
module

public import proofs.«01_k».proof.Proof.Whole
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Sparse

open Idealize.ShloMosaic

/-- The square root keeps the order of what is not negative. -/
theorem sqrt_lt_sqrt {x y : EReal} (hx : 0 ≤ x) (hy : 0 ≤ y) : Ideal.sqrt x < Ideal.sqrt y ↔ x < y := by
  have ht : Ideal.sqrt ⊤ = ⊤ := rfl
  have hr : ∀ r : ℝ, 0 ≤ r → Ideal.sqrt (r : EReal) = (Real.sqrt r : EReal) := fun r h => if_neg (not_lt.mpr h)
  induction x with
  | bot => exact absurd hx (by simp)
  | top => rw [ht]; exact ⟨fun h => absurd h not_top_lt, fun h => absurd h not_top_lt⟩
  | coe a =>
    have ha : 0 ≤ a := by exact_mod_cast hx
    rw [hr a ha]
    induction y with
    | bot => exact absurd hy (by simp)
    | top => rw [ht]; exact ⟨fun _ => EReal.coe_lt_top a, fun _ => EReal.coe_lt_top _⟩
    | coe b =>
      rw [hr b (by exact_mod_cast hy), EReal.coe_lt_coe_iff, EReal.coe_lt_coe_iff]
      exact Real.sqrt_lt_sqrt_iff ha

/-- The positions of the largest entries of a row are where a stable sort of the row, largest first, takes them from. -/
theorem topK_position {H N K : Nat} {α : Type} (gt : α → α → BitVec 1) (x : (⟨3, ![1, H, N]⟩ : Shape).Idx → α)
    (hs : (⟨3, ![1, H, N]⟩ : Shape).Slices (fun _ => 0) ⟨3, ![1, H, K]⟩) (h : Fin H) (u : Fin K) (hK : K ≤ N) :
    (Host.topK ⟨3, ![1, H, K]⟩ 2 gt x hs).2 (ix3 0 h u)
      = BitVec.ofNat 32 (sortedFrom (fun k k' : Fin N => gt (x (ix3 0 h k)) (x (ix3 0 h k')) == 1#1) (u.castLE hK)).val := by
  have hal : ∀ (w k : Fin N), Shape.Idx.along (s := ⟨3, ![1, H, N]⟩) (ix3 0 h w) 2 k = ix3 0 h k := by
    intro w k
    funext a
    fin_cases a <;> rfl
  have hsl : ∀ y : (⟨3, ![1, H, N]⟩ : Shape).Idx → BitVec 32,
      extractStridedSlice ⟨3, ![1, H, K]⟩ (fun _ => 0) y hs (ix3 0 h u) = y (ix3 0 h (u.castLE hK)) := by
    intro y
    refine congrArg y ?_
    funext a
    fin_cases a <;> exact Fin.ext (Nat.zero_add _)
  simp only [Host.topK]
  rw [hsl]
  simp only [Host.sort2, dif_pos (show 2 < (⟨3, ![1, H, N]⟩ : Shape).rank from Nat.lt_succ_self 2)]
  have hR : (fun k k' : Fin N => gt (x (Shape.Idx.along (s := ⟨3, ![1, H, N]⟩) (ix3 0 h (u.castLE hK)) 2 k))
      (x (Shape.Idx.along (s := ⟨3, ![1, H, N]⟩) (ix3 0 h (u.castLE hK)) 2 k')) == 1#1)
      = fun k k' : Fin N => gt (x (ix3 0 h k)) (x (ix3 0 h k')) == 1#1 := by
    funext k k'
    rw [hal, hal]
  exact congrArg (fun R : Fin N → Fin N → Bool => BitVec.ofNat 32 (sortedFrom R (u.castLE hK)).val) hR

end Cert.Sparse

namespace Cert.ReferenceIdeal.Value

open Cert.ReferenceIdeal Cert.ReferenceIdeal.Gen Idealize.ShloMosaic Idealize.ShloMosaic.TcCoe Idealize.SL.Sem Cert.Sparse
open Cert.KernelIdeal.Gen (heads headOf lengths chosen col lengths_nonneg lengths_gt)

variable (V0 : Valuation τ sig (Elt Ideal))

/-- The heads of the reference's arguments. -/
abbrev headsIn : FVec Ideal Cert.KernelIdeal.S3x16x2048x128 .f32 :=
  heads (V0 (Proc.devRef .tc main_arg0)) (V0 (Proc.devRef .tc main_arg1)) (V0 (Proc.devRef .tc main_arg2))

/-- The reference's queries, keys and values are the heads of its arguments. -/
theorem v5_at (s : Fin 3) (h : Fin 16) (n : Fin 2048) (d : Fin 128) :
    res_main_v5 V0 (ix5 s 0 h n d) = headOf (headsIn V0) s h n d := by
  pointwise [res_main_v5, headOf, heads]
  blk_point [col]

/-- The reference's queries are the first of the heads. -/
theorem v7_at (h : Fin 16) (n : Fin 2048) (d : Fin 128) :
    res_main_v7 V0 (ix4 0 h n d) = headOf (headsIn V0) 0 h n d := by
  rw [← v5_at]
  pointwise [res_main_v7]

/-- The reference's query norms are the square roots of the queries' squared lengths. -/
theorem v12_at (h : Fin 16) (n : Fin 2048) :
    res_main_v12 V0 (ix3 0 h n) = Ideal.sqrt (lengths (headsIn V0) h n) := by
  unfold lengths
  simp only [← v7_at]
  pointwise [res_main_v12]

/-- The `u`-th position the reference selects for a head is that of the `u`-th largest query of the head. -/
theorem indices_at (h : Fin 16) (u : Fin 40) :
    res_main_indices V0 (ix3 0 h u) = BitVec.ofNat 32 (chosen (headsIn V0) h u).val := by
  have hs : sortedFrom (fun k k' : Fin 2048 => Ideal.cmpTotal .gt (res_main_v12 V0 (ix3 0 h k)) (res_main_v12 V0 (ix3 0 h k')) == 1#1)
      (u.castLE (by omega)) = chosen (headsIn V0) h u := by
    rw [sortedFrom_value (f := lengths (headsIn V0) h) _ ?_]
    · exact sorted_eq_pick (by omega) (lengths_gt _ h) u
    · intro a b
      rw [v12_at, v12_at]
      have e : Ideal.cmpTotal .gt (Ideal.sqrt (lengths (headsIn V0) h a)) (Ideal.sqrt (lengths (headsIn V0) h b))
          = BitVec.ofBool (decide (lengths (headsIn V0) h b < lengths (headsIn V0) h a)) :=
        congrArg BitVec.ofBool (decide_eq_decide.mpr (sqrt_lt_sqrt (lengths_nonneg _ h b) (lengths_nonneg _ h a)))
      rw [e]
      by_cases hlt : lengths (headsIn V0) h b < lengths (headsIn V0) h a <;> simp [hlt]
  rw [← hs]
  exact topK_position (FloatOps.cmpfTotal (F := Ideal) (φ := .f32) .gt) (res_main_v12 V0) _ h u (by omega)

end Cert.ReferenceIdeal.Value

end
-- ==== Proof.RefScores.lean ====
/- The reference's scores of the selected queries and their softmax. -/
module

public import proofs.«01_k».proof.Proof.RefPick
public import Idealize.ShloMosaic.Lib.Routing.OpsPair
public import Idealize.ShloMosaic.Lib.Routing.OpsSet

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Sparse
open Cert.KernelIdeal.Gen (heads headOf lengths chosen col lengths_nonneg lengths_gt)

variable (V0 : Valuation τ sig (Elt Ideal))

/-- A position below the row's length, read from the end where it is negative, is itself. -/
theorem wrap_position (n : Fin 2048) (a : BitVec 32) :
    Scalar.select (IntOp.cmpi .slt (BitVec.ofNat 32 n.val) 0#32) a (BitVec.ofNat 32 n.val) = BitVec.ofNat 32 n.val := by
  refine Idealize.ShloMosaic.Routing.wrap_of_lt _ _ ?_
  rw [BitVec.toNat_ofNat]
  have := n.isLt
  omega

/-- The positions the gather reads are the selected ones. -/
theorem wrapped_at (h : Fin 16) (u : Fin 40) :
    res_main_call1_v5 V0 (ix3 h u 0) = BitVec.ofNat 32 (chosen (headsIn V0) h u).val := by
  rw [← indices_at]
  pointwise [res_main_call1_v5, res_main_v13]
  rw [indices_at]
  exact wrap_position _ _

/-- A gather of rows, one list of row numbers per head, reads the row its list names. -/
theorem gather_at (i : IVec S16x40x1 32) (x : FVec Ideal S1x16x2048x128 .f32) (h : Fin 16) (u : Fin 40) (d : Fin 128) (n : Fin 2048)
    (hi : i (ix3 h u 0) = BitVec.ofNat 32 n.val) :
    Host.gather gather_S1x16x2048x128_S16x40x1_S1x16x40x128_03_2_1_0_2_2_111128 x i (ix4 0 h u d) = x (ix4 0 h n d) := by
  refine congrArg x ?_
  funext a
  have e2 : GatherDims.start gather_S1x16x2048x128_S16x40x1_S1x16x40x128_03_2_1_0_2_2_111128 (ix4 0 h u d) i 2 = n.val := by
    have hs : GatherDims.siIdx gather_S1x16x2048x128_S16x40x1_S1x16x40x128_03_2_1_0_2_2_111128 (ix4 0 h u d) ⟨0, Nat.zero_lt_one⟩ = ix3 h u 0 := by
      funext b
      fin_cases b <;> rfl
    refine Eq.trans (congrArg (fun k => min (i k).toInt.toNat 2047) hs) ?_
    show min (i (ix3 h u 0)).toInt.toNat 2047 = n.val
    have := n.isLt
    rw [hi, WordCmp.toInt_ofNat_of_lt (by omega)]
    omega
  fin_cases a
  · exact Fin.ext rfl
  · exact Fin.ext ((Nat.add_zero _).trans (Nat.zero_add _))
  · exact Fin.ext e2
  · exact Fin.ext (Nat.zero_add _)

/-- A choice by one is the first. -/
theorem select_one {α : Type} {b : BitVec 1} {x y r : α} (hb : b = 1#1) (hx : x = r) : Scalar.select b x y = r := by
  subst hb
  exact hx

/-- A conjunction of ones is one. -/
theorem fold_andi_one {ι : Type} [DecidableEq ι] (s : Finset ι) (f : ι → BitVec 1) (hf : ∀ i, f i = 1#1) : Finset.fold IntOp.andi (1#1) f s = 1#1 := by
  induction s using Finset.induction_on with
  | empty => rfl
  | insert a s ha ih => rw [Finset.fold_insert ha, ih, hf]; rfl

/-- Every position the gather reads is one of the row's. -/
theorem in_range (x : S16x40x1.Idx) :
    IntOp.andi (IntOp.cmpi .sge (res_main_call1_v5 V0 x) 0#32) (IntOp.cmpi .sle (res_main_call1_v5 V0 x) 2047#32) = 1#1 := by
  have hx : x = ix3 (x 0) (x 1) 0 := by blk_ext
  have e := (congrArg (res_main_call1_v5 V0) hx).trans (wrapped_at V0 (x 0) (x 1))
  rw [e]
  generalize chosen (headsIn V0) (x 0) (x 1) = n
  have hn := n.isLt
  have hi : (BitVec.ofNat 32 n.val).toInt = n.val := WordCmp.toInt_ofNat_of_lt (by omega)
  have h1 : IntOp.cmpi .sge (BitVec.ofNat 32 n.val) 0#32 = 1#1 := by
    refine congrArg BitVec.ofBool (BitVec.sle_iff_toInt_le.mpr ?_)
    rw [hi]
    exact Int.natCast_nonneg _
  have h2 : IntOp.cmpi .sle (BitVec.ofNat 32 n.val) 2047#32 = 1#1 := by
    refine congrArg BitVec.ofBool (BitVec.sle_iff_toInt_le.mpr ?_)
    rw [hi, show (2047#32).toInt = 2047 from rfl]
    omega
  rw [h1, h2]
  rfl

/-- The gathered queries are the selected ones. -/
theorem gathered_at (h : Fin 16) (u : Fin 40) (d : Fin 128) :
    Host.gather gather_S1x16x2048x128_S16x40x1_S1x16x40x128_03_2_1_0_2_2_111128 (res_main_v7 V0) (res_main_call1_v5 V0) (ix4 0 h u d)
      = headOf (headsIn V0) 0 h (chosen (headsIn V0) h u) d :=
  (gather_at _ _ h u d _ (wrapped_at V0 h u)).trans (v7_at V0 h _ d)

/-- A head's score of a selected query with a key. -/
theorem v21_at (h : Fin 16) (u : Fin 40) (m : Fin 2048) :
    res_main_v21 V0 (ix4 0 h u m) = scores (headOf (headsIn V0) 0 h) (headOf (headsIn V0) 1 h) (chosen (headsIn V0) h u) m := by
  pointwise [res_main_v21]
  refine congrArg (· * scale) (Finset.sum_congr rfl fun d _ => congrArg₂ (· * ·) ?_ (v5_at V0 1 h m d))
  exact select_one (fold_andi_one _ _ (in_range V0)) (gathered_at V0 h u d)

/-- A row's maximum is that of its entries. -/
theorem max_at (x : FVec Ideal S1x16x40x2048 .f32) (h : Fin 16) (u : Fin 40) :
    Host.reduce FloatOps.maximumf x (constant S_ .f32 0xFF800000#32) reducesTo_S1x16x40x2048_S1x16x40_d3 h_S_ (ix3 0 h u)
      = top fun m => x (ix4 0 h u m) := by
  rw [Host.reduce_eq_fold]
  refine (Shape.ReducesTo.fold_fiber_r4_a3 reducesTo_S1x16x40x2048_S1x16x40_d3 (ix3 0 h u) FloatOps.maximumf _ x).trans ?_
  exact congrArg (fun b => Finset.fold max b (fun m => x (ix4 0 h u m)) Finset.univ) Cert.KernelIdeal.Gen.ofBits_minus_infinity

/-- The exponential of an entry less a value of its row, no less than minus infinity. -/
theorem exp_less_at (x : FVec Ideal S1x16x40x2048 .f32) (y : FVec Ideal S1x16x40 .f32) (h : Fin 16) (u : Fin 40) (m : Fin 2048) :
    Host.exp (subf x (broadcastInDim S1x16x40x2048 ![0, 1, 2, 3] bcast_S1x16x40x1_S1x16x40x2048_0_1_2_3
      (broadcastInDim S1x16x40x1 ![0, 1, 2] bcast_S1x16x40_S1x16x40x1_0_1_2
        (maximumf (broadcastInDim S1x16x40 ![] bcast_S_S1x16x40 (constant (F := Ideal) S_ .f32 0xFF800000#32)) y)))) (ix4 0 h u m)
      = Ideal.exp (x (ix4 0 h u m) - y (ix3 0 h u)) := by
  pointwise
  rw [Cert.KernelIdeal.Gen.ofBits_minus_infinity, max_eq_right bot_le]

/-- The exponentials of a selected query's scores less their maximum. -/
theorem v28_at (h : Fin 16) (u : Fin 40) (m : Fin 2048) :
    res_main_v28 V0 (ix4 0 h u m) = Ideal.exp (scores (headOf (headsIn V0) 0 h) (headOf (headsIn V0) 1 h) (chosen (headsIn V0) h u) m
      - top (scores (headOf (headsIn V0) 0 h) (headOf (headsIn V0) 1 h) (chosen (headsIn V0) h u))) := by
  refine (exp_less_at (res_main_v21 V0) _ h u m).trans ?_
  refine congrArg Ideal.exp (congrArg₂ (· - ·) (v21_at V0 h u m) ((max_at (res_main_v21 V0) h u).trans ?_))
  exact congrArg top (funext fun m => v21_at V0 h u m)

/-- An entry divided by its row's sum. -/
theorem quotient_at (x : FVec Ideal S1x16x40x2048 .f32) (h : Fin 16) (u : Fin 40) (m : Fin 2048) :
    Host.divf x (broadcastInDim S1x16x40x2048 ![0, 1, 2, 3] bcast_S1x16x40x1_S1x16x40x2048_0_1_2_3
      (broadcastInDim S1x16x40x1 ![0, 1, 2] bcast_S1x16x40_S1x16x40x1_0_1_2
        (Host.reduceAdd x (constant S_ .f32 0x00000000#32) reducesTo_S1x16x40x2048_S1x16x40_d3 h_S_))) (ix4 0 h u m)
      = Ideal.div (x (ix4 0 h u m)) (∑ l, x (ix4 0 h u l)) := by
  pointwise

/-- The softmax of a selected query's scores. -/
theorem soft_at (h : Fin 16) (u : Fin 40) (m : Fin 2048) :
    Host.divf (res_main_v28 V0) (broadcastInDim S1x16x40x2048 ![0, 1, 2, 3] bcast_S1x16x40x1_S1x16x40x2048_0_1_2_3
      (broadcastInDim S1x16x40x1 ![0, 1, 2] bcast_S1x16x40_S1x16x40x1_0_1_2
        (Host.reduceAdd (res_main_v28 V0) (constant S_ .f32 0x00000000#32) reducesTo_S1x16x40x2048_S1x16x40_d3 h_S_))) (ix4 0 h u m)
      = soft (scores (headOf (headsIn V0) 0 h) (headOf (headsIn V0) 1 h) (chosen (headsIn V0) h u)) m := by
  refine (quotient_at (res_main_v28 V0) h u m).trans ?_
  exact congrArg₂ Ideal.div (v28_at V0 h u m) (Finset.sum_congr rfl fun l _ => v28_at V0 h u l)

end Cert.ReferenceIdeal.Value

end
-- ==== Proof.RefRows.lean ====
/- The rows the reference scatters its scores' softmax into. -/
module

public import proofs.«01_k».proof.Proof.RefScores

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Sparse
open Cert.KernelIdeal.Gen (heads headOf lengths chosen col lengths_nonneg lengths_gt chosen_injective)

variable (V0 : Valuation τ sig (Elt Ideal))

/-- A scattered row's entry lands at the head and the row its index words name, at its own column. -/
theorem lands (idx : IVec S1x16x40x3 32) (h h' : Fin 16) (u : Fin 40) (n m m' : Fin 2048)
    (h0 : idx (ix4 0 h u 0) = 0#32) (p : Fin 2048) (h1 : idx (ix4 0 h u 1) = BitVec.ofNat 32 h.val)
    (h2 : idx (ix4 0 h u 2) = BitVec.ofNat 32 p.val) :
    scatter_S1x16x2048x2048_S1x16x40x3_S1x16x40x2048_3_012_012_3.resultIdx? (ix4 0 h u m') idx = some (ix4 0 h' n m) ↔ h = h' ∧ p = n ∧ m' = m := by
  have hh := h.isLt
  have hp := p.isLt
  have hs : ∀ c : Fin 3, scatter_S1x16x2048x2048_S1x16x40x3_S1x16x40x2048_3_012_012_3.siIdx (ix4 0 h u m') c = ix4 0 h u c := by
    intro c
    funext b
    fin_cases b <;> rfl
  have s0 : scatter_S1x16x2048x2048_S1x16x40x3_S1x16x40x2048_3_012_012_3.start (ix4 0 h u m') idx 0 = 0 :=
    (congrArg (fun k => (idx k).toInt) (hs 0)).trans (congrArg BitVec.toInt h0)
  have s1 : scatter_S1x16x2048x2048_S1x16x40x3_S1x16x40x2048_3_012_012_3.start (ix4 0 h u m') idx 1 = h.val :=
    ((congrArg (fun k => (idx k).toInt) (hs 1)).trans (congrArg BitVec.toInt h1)).trans (WordCmp.toInt_ofNat_of_lt (by omega))
  have s2 : scatter_S1x16x2048x2048_S1x16x40x3_S1x16x40x2048_3_012_012_3.start (ix4 0 h u m') idx 2 = p.val :=
    ((congrArg (fun k => (idx k).toInt) (hs 2)).trans (congrArg BitVec.toInt h2)).trans (WordCmp.toInt_ofNat_of_lt (by omega))
  have s3 : scatter_S1x16x2048x2048_S1x16x40x3_S1x16x40x2048_3_012_012_3.start (ix4 0 h u m') idx 3 = 0 := rfl
  have w0 : scatter_S1x16x2048x2048_S1x16x40x3_S1x16x40x2048_3_012_012_3.window (ix4 0 h u m') 0 = 0 := rfl
  have w1 : scatter_S1x16x2048x2048_S1x16x40x3_S1x16x40x2048_3_012_012_3.window (ix4 0 h u m') 1 = 0 := rfl
  have w2 : scatter_S1x16x2048x2048_S1x16x40x3_S1x16x40x2048_3_012_012_3.window (ix4 0 h u m') 2 = 0 := rfl
  have w3 : scatter_S1x16x2048x2048_S1x16x40x3_S1x16x40x2048_3_012_012_3.window (ix4 0 h u m') 3 = m'.val := rfl
  rw [Idealize.ShloMosaic.Routing.resultIdx?_eq_some]
  constructor
  · intro e
    have e1 := e 1
    have e2 := e 2
    have e3 := e 3
    rw [s1, w1] at e1
    rw [s2, w2] at e2
    rw [s3, w3] at e3
    have e1' : (h.val : Int) + (0 : Nat) = (h'.val : Int) := e1
    have e2' : (p.val : Int) + (0 : Nat) = (n.val : Int) := e2
    have e3' : (0 : Int) + (m'.val : Nat) = (m.val : Int) := e3
    exact ⟨Fin.ext (by omega), Fin.ext (by omega), Fin.ext (by omega)⟩
  · rintro ⟨rfl, rfl, rfl⟩ a
    fin_cases a
    · exact congrArg₂ (fun (x : Int) (y : Nat) => x + (y : Int)) s0 w0
    · exact (congrArg₂ (fun (x : Int) (y : Nat) => x + (y : Int)) s1 w1).trans (Int.add_zero _)
    · exact (congrArg₂ (fun (x : Int) (y : Nat) => x + (y : Int)) s2 w2).trans (Int.add_zero _)
    · exact (congrArg₂ (fun (x : Int) (y : Nat) => x + (y : Int)) s3 w3).trans (Int.zero_add _)

/-- A choice by zero is the second. -/
theorem select_zero {α : Type} {b : BitVec 1} {x y r : α} (hb : b = 0#1) (hy : y = r) : Scalar.select b x y = r := by
  subst hb
  exact hy

section Scatter

variable {α : Type} (idx : IVec S1x16x40x3 32) (σ : Fin 16 → Fin 40 → Fin 2048)
  (h0 : ∀ h u, idx (ix4 0 h u 0) = 0#32) (h1 : ∀ (h : Fin 16) u, idx (ix4 0 h u 1) = BitVec.ofNat 32 h.val)
  (h2 : ∀ h u, idx (ix4 0 h u 2) = BitVec.ofNat 32 (σ h u).val) (x0 : S1x16x2048x2048.Idx → α) (upd : S1x16x40x2048.Idx → α)
include h0 h1 h2

/-- A row that an index names holds that index's update. -/
theorem scatter_hit (hσ : ∀ h, Function.Injective (σ h)) (h : Fin 16) (u : Fin 40) (m : Fin 2048) :
    Host.scatter scatter_S1x16x2048x2048_S1x16x40x3_S1x16x40x2048_3_012_012_3 (fun _ b => b) x0 idx upd (ix4 0 h (σ h u) m) = upd (ix4 0 h u m) := by
  refine Idealize.ShloMosaic.Routing.scatter_set_hit _ x0 idx upd _ _ ?_ (ix4 0 h u m)
    ((lands idx h h u (σ h u) m m (h0 h u) (σ h u) (h1 h u) (h2 h u)).mpr ⟨rfl, rfl, rfl⟩)
  intro k hk
  have hk' : k = ix4 0 (k 1) (k 2) (k 3) := by blk_ext
  rw [hk'] at hk ⊢
  obtain ⟨a, b, c⟩ := (lands idx (k 1) h (k 2) (σ h u) m (k 3) (h0 _ _) (σ (k 1) (k 2)) (h1 _ _) (h2 _ _)).mp hk
  have b' : k 2 = u := hσ h (by rw [← a]; exact b.trans (by rw [a]))
  rw [a, b', c]
  rfl

/-- A row that no index names keeps what it held. -/
theorem scatter_miss (h : Fin 16) (n m : Fin 2048) (hn : ∀ u, σ h u ≠ n) :
    Host.scatter scatter_S1x16x2048x2048_S1x16x40x3_S1x16x40x2048_3_012_012_3 (fun _ b => b) x0 idx upd (ix4 0 h n m) = x0 (ix4 0 h n m) := by
  refine Idealize.ShloMosaic.Routing.scatter_set_miss _ x0 idx upd _ ?_
  intro k hk
  have hk' : k = ix4 0 (k 1) (k 2) (k 3) := by blk_ext
  rw [hk'] at hk
  obtain ⟨a, b, c⟩ := (lands idx (k 1) h (k 2) n m (k 3) (h0 _ _) (σ (k 1) (k 2)) (h1 _ _) (h2 _ _)).mp hk
  exact hn (k 2) (by rw [← a]; exact b)

end Scatter

/-- The scattered scores: index words that name head and row, the rows' marks, and the softmax written over them. -/
theorem v84_form : ∃ idx : IVec S1x16x40x3 32, res_main_v84 V0 =
      select (Host.scatter scatter_S1x16x2048x2048_S1x16x40x3_S1x16x40x2048_3_012_012_3 (fun _ b => b)
          (broadcastInDim S1x16x2048x2048 ![] bcast_S_S1x16x2048x2048 (constantI S_ 1 0#1)) idx
          (broadcastInDim S1x16x40x2048 ![] bcast_S_S1x16x40x2048 (constantI S_ 1 1#1)))
        (Host.scatter scatter_S1x16x2048x2048_S1x16x40x3_S1x16x40x2048_3_012_012_3 (fun _ b => b)
          (broadcastInDim S1x16x2048x2048 ![] bcast_S_S1x16x2048x2048 (constant S_ .f32 0x00000000#32)) idx
          (Host.divf (res_main_v28 V0) (broadcastInDim S1x16x40x2048 ![0, 1, 2, 3] bcast_S1x16x40x1_S1x16x40x2048_0_1_2_3
            (broadcastInDim S1x16x40x1 ![0, 1, 2] bcast_S1x16x40_S1x16x40x1_0_1_2
              (Host.reduceAdd (res_main_v28 V0) (constant S_ .f32 0x00000000#32) reducesTo_S1x16x40x2048_S1x16x40_d3 h_S_)))))
        (broadcastInDim S1x16x2048x2048 ![] bcast_S_S1x16x2048x2048 (id (constant S_ .f32 0xFF800000#32)))
    ∧ (∀ h u, idx (ix4 0 h u 0) = 0#32) ∧ (∀ (h : Fin 16) u, idx (ix4 0 h u 1) = BitVec.ofNat 32 h.val)
    ∧ (∀ h u, idx (ix4 0 h u 2) = BitVec.ofNat 32 (chosen (headsIn V0) h u).val) := by
  refine ⟨_, rfl, ?_, ?_, ?_⟩
  · intro h u
    pointwise [res_main_v34]
    exact wrap_position 0 _
  · intro h u
    pointwise [res_main_v36]
    exact wrap_position (h.castLE (by omega)) _
  · intro h u
    pointwise
    rw [indices_at]
    exact wrap_position _ _

/-- A selected query's row holds the softmax of its scores. -/
theorem v84_hit (h : Fin 16) (u : Fin 40) (m : Fin 2048) :
    res_main_v84 V0 (ix4 0 h (chosen (headsIn V0) h u) m)
      = soft (scores (headOf (headsIn V0) 0 h) (headOf (headsIn V0) 1 h) (chosen (headsIn V0) h u)) m := by
  obtain ⟨idx, e, h0, h1, h2⟩ := v84_form V0
  refine (congrFun e _).trans ?_
  refine select_one ((scatter_hit idx _ h0 h1 h2 _ _ (chosen_injective _) h u m).trans ?_)
    ((scatter_hit idx _ h0 h1 h2 _ _ (chosen_injective _) h u m).trans (soft_at V0 h u m))
  rfl

/-- Any other row holds minus infinity. -/
theorem v84_miss (h : Fin 16) (n m : Fin 2048) (hn : ∀ u, chosen (headsIn V0) h u ≠ n) : res_main_v84 V0 (ix4 0 h n m) = (⊥ : EReal) := by
  obtain ⟨idx, e, h0, h1, h2⟩ := v84_form V0
  refine (congrFun e _).trans ?_
  refine select_zero ((scatter_miss idx _ h0 h1 h2 _ _ h n m hn).trans ?_) ?_
  · rfl
  · exact Cert.KernelIdeal.Gen.ofBits_minus_infinity

end Cert.ReferenceIdeal.Value

end
-- ==== Proof.RefWhole.lean ====
/- The reference's result as a function of its arguments. -/
module

public import proofs.«01_k».proof.Proof.RefRows

@[expose] public section

set_option maxRecDepth 16384

noncomputable section

namespace Cert.Sparse

/-- The softmax of a row of minus infinities is minus infinity. -/
theorem soft_bot (m : Fin 2048) : soft (fun _ => ⊥) m = ⊥ := by
  have ht : top (fun _ => ⊥) = ⊥ := le_antisymm ((Finset.fold_max_le _).mpr ⟨le_rfl, fun _ _ => le_rfl⟩) bot_le
  have he : Idealize.ShloMosaic.Ideal.exp (⊥ - top (fun _ => ⊥)) = 0 := by
    rw [ht, EReal.bot_sub]
    rfl
  have hs : (∑ l : Fin 2048, Idealize.ShloMosaic.Ideal.exp (⊥ - top (fun _ => ⊥))) = 0 := Finset.sum_eq_zero fun _ _ => he
  unfold soft
  rw [hs, he]
  unfold Idealize.ShloMosaic.Ideal.div
  rw [if_pos rfl, if_neg (lt_irrefl _)]

/-- A sum of multiples of minus infinity, one of them by a positive value, is minus infinity. -/
theorem sum_bot_mul (v : Fin 2048 → EReal) (hv : ∃ m, 0 < v m) : ∑ m, (⊥ : EReal) * v m = ⊥ := by
  obtain ⟨m, hm⟩ := hv
  rw [← Finset.add_sum_erase _ _ (Finset.mem_univ m), EReal.bot_mul_of_pos hm, EReal.bot_add]

end Cert.Sparse

namespace Cert.ReferenceIdeal.Value

open Cert.ReferenceIdeal Cert.ReferenceIdeal.Gen Idealize.ShloMosaic Idealize.ShloMosaic.TcCoe Idealize.SL.Sem Cert.Sparse
open Cert.KernelIdeal.Gen (heads headOf lengths chosen col attendedAt headIn entryIn resultAt)

variable (V0 : Valuation τ sig (Elt Ideal))

/-- A row's maximum is that of its entries. -/
theorem whole_max_at (x : FVec Ideal S1x16x2048x2048 .f32) (h : Fin 16) (n : Fin 2048) :
    Host.reduce FloatOps.maximumf x (constant S_ .f32 0xFF800000#32) reducesTo_S1x16x2048x2048_S1x16x2048_d3 h_S_ (ix3 0 h n)
      = top fun m => x (ix4 0 h n m) := by
  rw [Host.reduce_eq_fold]
  refine (Shape.ReducesTo.fold_fiber_r4_a3 reducesTo_S1x16x2048x2048_S1x16x2048_d3 (ix3 0 h n) FloatOps.maximumf _ x).trans ?_
  exact congrArg (fun b => Finset.fold max b (fun m => x (ix4 0 h n m)) Finset.univ) Cert.KernelIdeal.Gen.ofBits_minus_infinity

/-- The exponential of an entry less a value of its row, no less than minus infinity. -/
theorem whole_exp_at (x : FVec Ideal S1x16x2048x2048 .f32) (y : FVec Ideal S1x16x2048 .f32) (h : Fin 16) (n m : Fin 2048) :
    Host.exp (subf x (broadcastInDim S1x16x2048x2048 ![0, 1, 2, 3] bcast_S1x16x2048x1_S1x16x2048x2048_0_1_2_3
      (broadcastInDim S1x16x2048x1 ![0, 1, 2] bcast_S1x16x2048_S1x16x2048x1_0_1_2
        (maximumf (broadcastInDim S1x16x2048 ![] bcast_S_S1x16x2048 (constant (F := Ideal) S_ .f32 0xFF800000#32)) y)))) (ix4 0 h n m)
      = Ideal.exp (x (ix4 0 h n m) - y (ix3 0 h n)) := by
  pointwise
  rw [Cert.KernelIdeal.Gen.ofBits_minus_infinity, max_eq_right bot_le]

/-- A row of the scattered scores. -/
def rowAt (h : Fin 16) (n : Fin 2048) : Fin 2048 → EReal := fun l => res_main_v84 V0 (ix4 0 h n l)

/-- The exponentials of a row less its maximum. -/
theorem v91_at (h : Fin 16) (n m : Fin 2048) :
    res_main_v91 V0 (ix4 0 h n m) = Ideal.exp (rowAt V0 h n m - top (rowAt V0 h n)) := by
  refine (whole_exp_at (res_main_v84 V0) _ h n m).trans ?_
  exact congrArg (fun t : EReal => Ideal.exp (rowAt V0 h n m - t)) (whole_max_at (res_main_v84 V0) h n)

/-- An entry divided by its row's sum. -/
theorem whole_quotient_at (x : FVec Ideal S1x16x2048x2048 .f32) (h : Fin 16) (n m : Fin 2048) :
    Host.divf x (broadcastInDim S1x16x2048x2048 ![0, 1, 2, 3] bcast_S1x16x2048x1_S1x16x2048x2048_0_1_2_3
      (broadcastInDim S1x16x2048x1 ![0, 1, 2] bcast_S1x16x2048_S1x16x2048x1_0_1_2
        (Host.reduceAdd x (constant S_ .f32 0x00000000#32) reducesTo_S1x16x2048x2048_S1x16x2048_d3 h_S_))) (ix4 0 h n m)
      = Ideal.div (x (ix4 0 h n m)) (∑ l, x (ix4 0 h n l)) := by
  pointwise

/-- The weights of the reference: the softmax of each row. -/
def weights : FVec Ideal S1x16x2048x2048 .f32 :=
  Host.divf (res_main_v91 V0) (broadcastInDim S1x16x2048x2048 ![0, 1, 2, 3] bcast_S1x16x2048x1_S1x16x2048x2048_0_1_2_3
    (broadcastInDim S1x16x2048x1 ![0, 1, 2] bcast_S1x16x2048_S1x16x2048x1_0_1_2
      (Host.reduceAdd (res_main_v91 V0) (constant S_ .f32 0x00000000#32) reducesTo_S1x16x2048x2048_S1x16x2048_d3 h_S_)))

/-- The weights of a row are the softmax of the scattered row. -/
theorem weights_at (h : Fin 16) (n m : Fin 2048) : weights V0 (ix4 0 h n m) = soft (rowAt V0 h n) m := by
  unfold weights
  refine (whole_quotient_at (res_main_v91 V0) h n m).trans ?_
  exact congrArg₂ Ideal.div (v91_at V0 h n m) (Finset.sum_congr rfl fun l _ => v91_at V0 h n l)

/-- Every value column holds a positive entry. -/
abbrev Positive : Prop := ∀ (h : Fin 16) (d : Fin 128), ∃ m : Fin 2048, 0 < headOf (headsIn V0) 2 h m d

/-- A row of weights against the values is the attended row. -/
theorem weighted_at (hp : Positive V0) (h : Fin 16) (n : Fin 2048) (d : Fin 128) :
    ∑ m, weights V0 (ix4 0 h n m) * headOf (headsIn V0) 2 h m d = attendedAt (headsIn V0) (chosen (headsIn V0)) h n d := by
  unfold attendedAt
  by_cases e : ∃ u, chosen (headsIn V0) h u = n
  · refine Eq.trans ?_ (if_pos e).symm
    obtain ⟨u, rfl⟩ := e
    refine Finset.sum_congr rfl fun m _ => congrArg (· * headOf (headsIn V0) 2 h m d) ?_
    exact (weights_at V0 h _ m).trans (congrArg (fun f => soft f m) (funext fun l => v84_hit V0 h u l : rowAt V0 h _ = _))
  · refine Eq.trans ?_ (if_neg e).symm
    refine Eq.trans ?_ (sum_bot_mul (fun m => headOf (headsIn V0) 2 h m d) (hp h d))
    refine Finset.sum_congr rfl fun m _ => congrArg (· * headOf (headsIn V0) 2 h m d) ?_
    refine (weights_at V0 h n m).trans ?_
    exact (congrArg (fun f => soft f m) (funext fun l => v84_miss V0 h n l fun u hu => e ⟨u, hu⟩ : rowAt V0 h n = fun _ => ⊥)).trans (soft_bot m)

/-- The output projection of weighted values. -/
theorem projected_at (P : FVec Ideal S1x16x2048x2048 .f32) (A : FVec Ideal S3x1x16x2048x128 .f32) (Wo : FVec Ideal S2048x2048 .f32)
    (bo : FVec Ideal S2048 .f32) (n o : Fin 2048) :
    addf (Host.dotGeneral dot_S1x2048x2048_S2048x2048_S1x2048x2048_2_0_01_1_n_n none (shapeCast _ (transpose S1x2048x16x128 [0, 2, 1, 3]
      (broadcastInDim S1x16x2048x128 ![1, 2, 3] bcast_S16x2048x128_S1x16x2048x128_1_2_3 (Host.dotGeneral dot_S16x2048x2048_S16x2048x128_S16x2048x128_2_1_1_2_0_0 none
        (shapeCast _ P shapeCasts_S1x16x2048x2048_S16x2048x2048)
        (shapeCast _ (shapeCast _ (extractStridedSlice S1x1x16x2048x128 ![2, 0, 0, 0, 0] A slices_S3x1x16x2048x128_S1x1x16x2048x128_2_0_0_0_0)
          shapeCasts_S1x1x16x2048x128_S1x16x2048x128) shapeCasts_S1x16x2048x128_S16x2048x128))) transposes_S1x16x2048x128_S1x2048x16x128_0_2_1_3)
      shapeCasts_S1x2048x16x128_S1x2048x2048) Wo)
      (broadcastInDim S1x2048x2048 ![0, 1, 2] bcast_S1x1x2048_S1x2048x2048_0_1_2 (broadcastInDim S1x1x2048 ![2] bcast_S2048_S1x1x2048_2 bo)) (ix3 0 n o)
      = (∑ k : Fin 2048, (∑ m : Fin 2048, P (ix4 0 (headIn k) n m) * A (ix5 2 0 (headIn k) m (entryIn k))) * Wo (ix2 k o)) + bo (ix1 o) := by
  pointwise
  rfl

/-- The reference ends with the result the kernel's arguments give, where every value column holds a positive entry. -/
theorem run_result (m : (ℓ : Loc nD τ sig) → Buf (Elt Ideal) ℓ) (ρ : Dev nD → PrngReg) (hp : ∀ c : Dev nD, Positive (StableHlo.launchContents m c)) :
    θ_run defs (onTc (τ := τ) (main (F := Ideal))) ⟨m, fun _ => 0, ρ⟩ fun r => ∀ c : Dev nD,
      r.2.mem ((c.tc : Thread nD τ).loc main_v105)
        = (fun j : S1x2048x2048.Idx => resultAt (heads (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run (F := Ideal) m ρ)
  funext j
  have hj : j = ix3 0 (j 1) (j 2) := by blk_ext
  refine (congrArg _ hj).trans ((projected_at (weights (StableHlo.launchContents m c)) (res_main_v5 (StableHlo.launchContents m c)) _ _ (j 1) (j 2)).trans ?_)
  refine congrArg₂ (· + ·) (Finset.sum_congr rfl fun k _ => congrArg₂ (· * ·) ?_ rfl) rfl
  refine Eq.trans (Finset.sum_congr rfl fun l _ => congrArg₂ (· * ·) rfl ?_) (weighted_at (StableHlo.launchContents m c) (hp c) (headIn k) (j 1) (entryIn k))
  exact v5_at (StableHlo.launchContents m c) 2 (headIn k) l (entryIn k)

end Cert.ReferenceIdeal.Value

end
-- ==== Proof.Reach.lean ====
/- The precondition: every column of the value vectors holds a positive entry. -/
module

public import proofs.«01_k».proof.Pre_values_reach_above_zero
public import proofs.«01_k».proof.Proof.RefWhole
public import Idealize.ShloMosaic.Lib.Affine
public import Idealize.ShloMosaic.Lib.Decide
public import Idealize.ShloMosaic.Lib.Routing.OpsOrder

@[expose] public section

set_option maxRecDepth 16384

noncomputable section

namespace Cert.Pre_values_reach_above_zero

open Idealize.ShloMosaic Cert.Sparse
open Cert.KernelIdeal.Gen (heads headOf col)

/-- The side conditions of the precondition's operations. -/
instance facts : Facts where
  bcast_S6144_S1x1x6144_2 := by decide
  bcast_S1x1x6144_S1x2048x6144_0_1_2 := by decide
  slices_S1x2048x6144_S1x2048x2048_0_0_4096 := by decide
  shapeCasts_S1x2048x2048_S2048x2048 := by decide
  bcast_S_S2048x2048 := by decide
  reducesTo_S2048x2048_S2048_d0 := by decide
  h_S_ := by decide
  dot_S1x2048x2048_S2048x6144_S1x2048x6144_2_0_01_1_n_n_wf := by decide

/-- Where the precondition holds, every entry of a head's values is positive at some position. -/
theorem reaches (X : FVec Ideal S1x2048x2048 .f32) (W : FVec Ideal S2048x6144 .f32) (b : FVec Ideal S6144 .f32) (Wo : FVec Ideal S2048x2048 .f32)
    (bo : FVec Ideal S2048 .f32) (hp : fn (F := Ideal) X W b Wo bo = fun _ => 1#1) (h : Fin 16) (d : Fin 128) :
    ∃ m : Fin 2048, 0 < headOf (heads X W b) 2 h m d := by
  have e := congrFun hp (ix1 (⟨h.val * 128 + d.val, by omega⟩ : Fin 2048))
  revert e
  pointwise [fn]
  intro e
  obtain ⟨m, -, hm⟩ := (Idealize.ShloMosaic.Routing.fold_ori _ _).mp e
  refine ⟨m, ?_⟩
  have hc : (⟨4096 + (h.val * 128 + d.val), by omega⟩ : Fin 6144) = col 2 h d :=
    Fin.ext (show 4096 + (h.val * 128 + d.val) = 2 * 2048 + h.val * 128 + d.val by omega)
  rw [hc] at hm
  have hd : ∀ q : Bool, BitVec.ofBool q = 1#1 → q = true := by decide
  exact of_decide_eq_true (hd _ hm)

end Cert.Pre_values_reach_above_zero

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RunKernel
public import proofs.«01_k».proof.Proof.Whole
public import proofs.«01_k».proof.Proof.Reach
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's execution ends with its arguments unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The algebraic claim: kernel and reference end with the same result. -/
theorem algebraic : Cert.algebraic_KernelIdeal_ReferenceIdeal_pre_values_reach_above_zero (hKernelIdeal := Cert.KernelIdeal.Gen.facts)
    (hReferenceIdeal := Cert.ReferenceIdeal.Gen.facts) (hPre_values_reach_above_zero := Cert.Pre_values_reach_above_zero.facts) := by
  intro m ρ m' ρ' hp ha
  have hpos : ∀ c, Cert.ReferenceIdeal.Value.Positive (StableHlo.launchContents m' c) := by
    intro c h d
    obtain ⟨a0, a1, a2, a3, a4⟩ := ha c
    have e : Cert.ReferenceIdeal.Value.headsIn (StableHlo.launchContents m' c) = Cert.KernelIdeal.Gen.headsAt m c := by
      show Cert.KernelIdeal.Gen.heads (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = _
      rw [a0, a1, a2]
    rw [e]
    exact Cert.Pre_values_reach_above_zero.reaches _ _ _ _ _ (hp c) h d
  refine ⟨fun c => fun j : Cert.KernelIdeal.S1x2048x2048.Idx => Cert.KernelIdeal.Gen.resultAt (Cert.KernelIdeal.Gen.headsAt m c)
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (j 1) (j 2), ?_, ?_⟩
  · exact (θ_run Cert.KernelIdeal.defs _ _).mono
      (fun r h c => ⟨(h c).1.trans (Cert.KernelIdeal.Gen.result_at m ρ c), (h c).2⟩) (Cert.KernelIdeal.Gen.run_result (F := Ideal) m ρ)
  · refine (θ_run Cert.ReferenceIdeal.defs _ _).mono (fun r h c => ⟨(h c).1.trans ?_, (h c).2⟩)
      (Cert.ReferenceIdeal.Value.run_result m' ρ' hpos)
    obtain ⟨a0, a1, a2, a3, a4⟩ := ha c
    rw [a0, a1, a2, a3, a4]

/-- The claim. -/
theorem claim : Cert.Claim := ⟨Cert.Kernel.Gen.facts, Cert.KernelIdeal.Gen.facts, Cert.ReferenceIdeal.Gen.facts, Cert.Pre_values_reach_above_zero.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
